-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096 : Shape := ⟨1, ![4096]⟩
abbrev S17 : Shape := ⟨1, ![17]⟩
abbrev S16 : Shape := ⟨1, ![16]⟩
abbrev S16x512 : Shape := ⟨2, ![16, 512]⟩
abbrev S256 : Shape := ⟨1, ![256]⟩
abbrev S_ : Shape := ⟨0, ![]⟩
abbrev S1x256 : Shape := ⟨2, ![1, 256]⟩

abbrev nBuf : Table → Nat
  | .hbm => 8
  | .local .scVector .vmem => 7
  | _ => 0

abbrev bufTy : (tb : Table) → Fin (nBuf tb) → BufTy
  | .hbm, ⟨0, _⟩ => ⟨S4096, .i32⟩
  | .hbm, ⟨1, _⟩ => ⟨S17, .i32⟩
  | .hbm, ⟨2, _⟩ => ⟨S4096, .i32⟩
  | .hbm, ⟨3, _⟩ => ⟨S17, .i32⟩
  | .hbm, ⟨4, _⟩ => ⟨S16, .f32⟩
  | .hbm, ⟨5, _⟩ => ⟨S16x512, .i32⟩
  | .hbm, ⟨6, _⟩ => ⟨S16x512, .i32⟩
  | .hbm, ⟨7, _⟩ => ⟨S16x512, .i32⟩
  | .local .scVector .vmem, ⟨0, _⟩ => ⟨S17, .i32⟩
  | .local .scVector .vmem, ⟨1, _⟩ => ⟨S17, .i32⟩
  | .local .scVector .vmem, ⟨2, _⟩ => ⟨S4096, .i32⟩
  | .local .scVector .vmem, ⟨3, _⟩ => ⟨S4096, .i32⟩
  | .local .scVector .vmem, ⟨4, _⟩ => ⟨S256, .i32⟩
  | .local .scVector .vmem, ⟨5, _⟩ => ⟨S256, .i32⟩
  | .local .scVector .vmem, ⟨6, _⟩ => ⟨S256, .i32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 5, rfl⟩
abbrev main_v0_1_scv : Ref sig .scVector := ⟨.hbm, 6, rfl⟩
abbrev main_v0_2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk2 (v32 : IVec S16 32) : Prop :=
  (∀ a x, ((![v32] : Fin 1 → IVec S16 32) a x).toNat < S17.size a)
theorem k0_idx2_inb : ∀ (v32 : IVec S16 32) (k0_hw2 : k0_chk2 v32), ∀ a x, ((![v32] : Fin 1 → IVec S16 32) a x).toNat < S17.size a := fun v32 k0_hw2 => k0_hw2

def k0_chk1 (v29 : IVec S16 32) : Prop :=
  (∀ a x, ((![v29] : Fin 1 → IVec S16 32) a x).toNat < S17.size a) ∧
  (∀ a x, ((![v29] : Fin 1 → IVec S16 32) a x).toNat < S17.size a)
theorem k0_idx1_inb : ∀ (v29 : IVec S16 32) (k0_hw1 : k0_chk1 v29), ∀ a x, ((![v29] : Fin 1 → IVec S16 32) a x).toNat < S17.size a := fun v29 k0_hw1 => k0_hw1.1
theorem k0_idx3_inb : ∀ (v29 : IVec S16 32) (k0_hw1 : k0_chk1 v29), ∀ a x, ((![v29] : Fin 1 → IVec S16 32) a x).toNat < S17.size a := fun v29 k0_hw1 => k0_hw1.2

def k0_chk3 (v36 : IVec S16 32) : Prop :=
  (∀ a x, ((![v36] : Fin 1 → IVec S16 32) a x).toNat < S17.size a)
theorem k0_idx4_inb : ∀ (v36 : IVec S16 32) (k0_hw3 : k0_chk3 v36), ∀ a x, ((![v36] : Fin 1 → IVec S16 32) a x).toNat < S17.size a := fun v36 k0_hw3 => k0_hw3

def k0_chk4 (v78 : IVec S16 32) : Prop :=
  (∀ a x, ((![v78] : Fin 1 → IVec S16 32) a x).toNat < S4096.size a)
theorem k0_idx5_inb : ∀ (v78 : IVec S16 32) (k0_hw4 : k0_chk4 v78), ∀ a x, ((![v78] : Fin 1 → IVec S16 32) a x).toNat < S4096.size a := fun v78 k0_hw4 => k0_hw4

def k0_chk5 (v86 : IVec S16 32) : Prop :=
  (∀ a x, ((![v86] : Fin 1 → IVec S16 32) a x).toNat < S4096.size a)
theorem k0_idx6_inb : ∀ (v86 : IVec S16 32) (k0_hw5 : k0_chk5 v86), ∀ a x, ((![v86] : Fin 1 → IVec S16 32) a x).toNat < S4096.size a := fun v86 k0_hw5 => k0_hw5

def k0_chk6 (v142 : IVec S16 32) : Prop :=
  (∀ a x, ((![v142] : Fin 1 → IVec S16 32) a x).toNat < S4096.size a)
theorem k0_idx7_inb : ∀ (v142 : IVec S16 32) (k0_hw6 : k0_chk6 v142), ∀ a x, ((![v142] : Fin 1 → IVec S16 32) a x).toNat < S4096.size a := fun v142 k0_hw6 => k0_hw6

def k0_chk7 (v150 : IVec S16 32) : Prop :=
  (∀ a x, ((![v150] : Fin 1 → IVec S16 32) a x).toNat < S4096.size a)
theorem k0_idx8_inb : ∀ (v150 : IVec S16 32) (k0_hw7 : k0_chk7 v150), ∀ a x, ((![v150] : Fin 1 → IVec S16 32) a x).toNat < S4096.size a := fun v150 k0_hw7 => k0_hw7

def k0_chk8 (v206 : IVec S16 32) : Prop :=
  (∀ a x, ((![v206] : Fin 1 → IVec S16 32) a x).toNat < S4096.size a)
theorem k0_idx9_inb : ∀ (v206 : IVec S16 32) (k0_hw8 : k0_chk8 v206), ∀ a x, ((![v206] : Fin 1 → IVec S16 32) a x).toNat < S4096.size a := fun v206 k0_hw8 => k0_hw8

def k0_chk9 (v214 : IVec S16 32) : Prop :=
  (∀ a x, ((![v214] : Fin 1 → IVec S16 32) a x).toNat < S4096.size a)
theorem k0_idx10_inb : ∀ (v214 : IVec S16 32) (k0_hw9 : k0_chk9 v214), ∀ a x, ((![v214] : Fin 1 → IVec S16 32) a x).toNat < S4096.size a := fun v214 k0_hw9 => k0_hw9

def k0_chk10 (v270 : IVec S16 32) : Prop :=
  (∀ a x, ((![v270] : Fin 1 → IVec S16 32) a x).toNat < S4096.size a)
theorem k0_idx11_inb : ∀ (v270 : IVec S16 32) (k0_hw10 : k0_chk10 v270), ∀ a x, ((![v270] : Fin 1 → IVec S16 32) a x).toNat < S4096.size a := fun v270 k0_hw10 => k0_hw10

def k0_chk11 (v278 : IVec S16 32) : Prop :=
  (∀ a x, ((![v278] : Fin 1 → IVec S16 32) a x).toNat < S4096.size a)
theorem k0_idx12_inb : ∀ (v278 : IVec S16 32) (k0_hw11 : k0_chk11 v278), ∀ a x, ((![v278] : Fin 1 → IVec S16 32) a x).toNat < S4096.size a := fun v278 k0_hw11 => k0_hw11

def k0_chk12 (v334 : IVec S16 32) : Prop :=
  (∀ a x, ((![v334] : Fin 1 → IVec S16 32) a x).toNat < S4096.size a)
theorem k0_idx13_inb : ∀ (v334 : IVec S16 32) (k0_hw12 : k0_chk12 v334), ∀ a x, ((![v334] : Fin 1 → IVec S16 32) a x).toNat < S4096.size a := fun v334 k0_hw12 => k0_hw12

def k0_chk13 (v342 : IVec S16 32) : Prop :=
  (∀ a x, ((![v342] : Fin 1 → IVec S16 32) a x).toNat < S4096.size a)
theorem k0_idx14_inb : ∀ (v342 : IVec S16 32) (k0_hw13 : k0_chk13 v342), ∀ a x, ((![v342] : Fin 1 → IVec S16 32) a x).toNat < S4096.size a := fun v342 k0_hw13 => k0_hw13

def k0_chk14 (v398 : IVec S16 32) : Prop :=
  (∀ a x, ((![v398] : Fin 1 → IVec S16 32) a x).toNat < S4096.size a)
theorem k0_idx15_inb : ∀ (v398 : IVec S16 32) (k0_hw14 : k0_chk14 v398), ∀ a x, ((![v398] : Fin 1 → IVec S16 32) a x).toNat < S4096.size a := fun v398 k0_hw14 => k0_hw14

def k0_chk15 (v406 : IVec S16 32) : Prop :=
  (∀ a x, ((![v406] : Fin 1 → IVec S16 32) a x).toNat < S4096.size a)
theorem k0_idx16_inb : ∀ (v406 : IVec S16 32) (k0_hw15 : k0_chk15 v406), ∀ a x, ((![v406] : Fin 1 → IVec S16 32) a x).toNat < S4096.size a := fun v406 k0_hw15 => k0_hw15

def k0_chk16 (v462 : IVec S16 32) : Prop :=
  (∀ a x, ((![v462] : Fin 1 → IVec S16 32) a x).toNat < S4096.size a)
theorem k0_idx17_inb : ∀ (v462 : IVec S16 32) (k0_hw16 : k0_chk16 v462), ∀ a x, ((![v462] : Fin 1 → IVec S16 32) a x).toNat < S4096.size a := fun v462 k0_hw16 => k0_hw16

def k0_chk17 (v470 : IVec S16 32) : Prop :=
  (∀ a x, ((![v470] : Fin 1 → IVec S16 32) a x).toNat < S4096.size a)
theorem k0_idx18_inb : ∀ (v470 : IVec S16 32) (k0_hw17 : k0_chk17 v470), ∀ a x, ((![v470] : Fin 1 → IVec S16 32) a x).toNat < S4096.size a := fun v470 k0_hw17 => k0_hw17

def k0_chk18 (v526 : IVec S16 32) : Prop :=
  (∀ a x, ((![v526] : Fin 1 → IVec S16 32) a x).toNat < S4096.size a)
theorem k0_idx19_inb : ∀ (v526 : IVec S16 32) (k0_hw18 : k0_chk18 v526), ∀ a x, ((![v526] : Fin 1 → IVec S16 32) a x).toNat < S4096.size a := fun v526 k0_hw18 => k0_hw18

def k0_chk19 (v534 : IVec S16 32) : Prop :=
  (∀ a x, ((![v534] : Fin 1 → IVec S16 32) a x).toNat < S4096.size a)
theorem k0_idx20_inb : ∀ (v534 : IVec S16 32) (k0_hw19 : k0_chk19 v534), ∀ a x, ((![v534] : Fin 1 → IVec S16 32) a x).toNat < S4096.size a := fun v534 k0_hw19 => k0_hw19

def k0_chk20 (v590 : IVec S16 32) : Prop :=
  (∀ a x, ((![v590] : Fin 1 → IVec S16 32) a x).toNat < S4096.size a)
theorem k0_idx21_inb : ∀ (v590 : IVec S16 32) (k0_hw20 : k0_chk20 v590), ∀ a x, ((![v590] : Fin 1 → IVec S16 32) a x).toNat < S4096.size a := fun v590 k0_hw20 => k0_hw20

def k0_chk21 (v598 : IVec S16 32) : Prop :=
  (∀ a x, ((![v598] : Fin 1 → IVec S16 32) a x).toNat < S4096.size a)
theorem k0_idx22_inb : ∀ (v598 : IVec S16 32) (k0_hw21 : k0_chk21 v598), ∀ a x, ((![v598] : Fin 1 → IVec S16 32) a x).toNat < S4096.size a := fun v598 k0_hw21 => k0_hw21

def k0_chk22 (v654 : IVec S16 32) : Prop :=
  (∀ a x, ((![v654] : Fin 1 → IVec S16 32) a x).toNat < S4096.size a)
theorem k0_idx23_inb : ∀ (v654 : IVec S16 32) (k0_hw22 : k0_chk22 v654), ∀ a x, ((![v654] : Fin 1 → IVec S16 32) a x).toNat < S4096.size a := fun v654 k0_hw22 => k0_hw22

def k0_chk23 (v662 : IVec S16 32) : Prop :=
  (∀ a x, ((![v662] : Fin 1 → IVec S16 32) a x).toNat < S4096.size a)
theorem k0_idx24_inb : ∀ (v662 : IVec S16 32) (k0_hw23 : k0_chk23 v662), ∀ a x, ((![v662] : Fin 1 → IVec S16 32) a x).toNat < S4096.size a := fun v662 k0_hw23 => k0_hw23

def k0_chk24 (v718 : IVec S16 32) : Prop :=
  (∀ a x, ((![v718] : Fin 1 → IVec S16 32) a x).toNat < S4096.size a)
theorem k0_idx25_inb : ∀ (v718 : IVec S16 32) (k0_hw24 : k0_chk24 v718), ∀ a x, ((![v718] : Fin 1 → IVec S16 32) a x).toNat < S4096.size a := fun v718 k0_hw24 => k0_hw24

def k0_chk25 (v726 : IVec S16 32) : Prop :=
  (∀ a x, ((![v726] : Fin 1 → IVec S16 32) a x).toNat < S4096.size a)
theorem k0_idx26_inb : ∀ (v726 : IVec S16 32) (k0_hw25 : k0_chk25 v726), ∀ a x, ((![v726] : Fin 1 → IVec S16 32) a x).toNat < S4096.size a := fun v726 k0_hw25 => k0_hw25

def k0_chk26 (v782 : IVec S16 32) : Prop :=
  (∀ a x, ((![v782] : Fin 1 → IVec S16 32) a x).toNat < S4096.size a)
theorem k0_idx27_inb : ∀ (v782 : IVec S16 32) (k0_hw26 : k0_chk26 v782), ∀ a x, ((![v782] : Fin 1 → IVec S16 32) a x).toNat < S4096.size a := fun v782 k0_hw26 => k0_hw26

def k0_chk27 (v790 : IVec S16 32) : Prop :=
  (∀ a x, ((![v790] : Fin 1 → IVec S16 32) a x).toNat < S4096.size a)
theorem k0_idx28_inb : ∀ (v790 : IVec S16 32) (k0_hw27 : k0_chk27 v790), ∀ a x, ((![v790] : Fin 1 → IVec S16 32) a x).toNat < S4096.size a := fun v790 k0_hw27 => k0_hw27

def k0_chk28 (v846 : IVec S16 32) : Prop :=
  (∀ a x, ((![v846] : Fin 1 → IVec S16 32) a x).toNat < S4096.size a)
theorem k0_idx29_inb : ∀ (v846 : IVec S16 32) (k0_hw28 : k0_chk28 v846), ∀ a x, ((![v846] : Fin 1 → IVec S16 32) a x).toNat < S4096.size a := fun v846 k0_hw28 => k0_hw28

def k0_chk29 (v854 : IVec S16 32) : Prop :=
  (∀ a x, ((![v854] : Fin 1 → IVec S16 32) a x).toNat < S4096.size a)
theorem k0_idx30_inb : ∀ (v854 : IVec S16 32) (k0_hw29 : k0_chk29 v854), ∀ a x, ((![v854] : Fin 1 → IVec S16 32) a x).toNat < S4096.size a := fun v854 k0_hw29 => k0_hw29

def k0_chk30 (v910 : IVec S16 32) : Prop :=
  (∀ a x, ((![v910] : Fin 1 → IVec S16 32) a x).toNat < S4096.size a)
theorem k0_idx31_inb : ∀ (v910 : IVec S16 32) (k0_hw30 : k0_chk30 v910), ∀ a x, ((![v910] : Fin 1 → IVec S16 32) a x).toNat < S4096.size a := fun v910 k0_hw30 => k0_hw30

def k0_chk31 (v918 : IVec S16 32) : Prop :=
  (∀ a x, ((![v918] : Fin 1 → IVec S16 32) a x).toNat < S4096.size a)
theorem k0_idx32_inb : ∀ (v918 : IVec S16 32) (k0_hw31 : k0_chk31 v918), ∀ a x, ((![v918] : Fin 1 → IVec S16 32) a x).toNat < S4096.size a := fun v918 k0_hw31 => k0_hw31

def k0_chk32 (v974 : IVec S16 32) : Prop :=
  (∀ a x, ((![v974] : Fin 1 → IVec S16 32) a x).toNat < S4096.size a)
theorem k0_idx33_inb : ∀ (v974 : IVec S16 32) (k0_hw32 : k0_chk32 v974), ∀ a x, ((![v974] : Fin 1 → IVec S16 32) a x).toNat < S4096.size a := fun v974 k0_hw32 => k0_hw32

def k0_chk33 (v982 : IVec S16 32) : Prop :=
  (∀ a x, ((![v982] : Fin 1 → IVec S16 32) a x).toNat < S4096.size a)
theorem k0_idx34_inb : ∀ (v982 : IVec S16 32) (k0_hw33 : k0_chk33 v982), ∀ a x, ((![v982] : Fin 1 → IVec S16 32) a x).toNat < S4096.size a := fun v982 k0_hw33 => k0_hw33

def k0_chk34 (v1038 : IVec S16 32) : Prop :=
  (∀ a x, ((![v1038] : Fin 1 → IVec S16 32) a x).toNat < S4096.size a)
theorem k0_idx35_inb : ∀ (v1038 : IVec S16 32) (k0_hw34 : k0_chk34 v1038), ∀ a x, ((![v1038] : Fin 1 → IVec S16 32) a x).toNat < S4096.size a := fun v1038 k0_hw34 => k0_hw34

def k0_chk35 (v1046 : IVec S16 32) : Prop :=
  (∀ a x, ((![v1046] : Fin 1 → IVec S16 32) a x).toNat < S4096.size a)
theorem k0_idx36_inb : ∀ (v1046 : IVec S16 32) (k0_hw35 : k0_chk35 v1046), ∀ a x, ((![v1046] : Fin 1 → IVec S16 32) a x).toNat < S4096.size a := fun v1046 k0_hw35 => k0_hw35
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v51 : BitVec 32 := Scalar.muli v28 c256_i32
  ![v18.toNat, v51.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S17 : Shape := ⟨1, ![17]⟩
abbrev S16 : Shape := ⟨1, ![16]⟩
abbrev S_ : Shape := ⟨0, ![]⟩
abbrev S512 : Shape := ⟨1, ![512]⟩
abbrev S1x512 : Shape := ⟨2, ![1, 512]⟩
abbrev S16x1 : Shape := ⟨2, ![16, 1]⟩
abbrev S16x512 : Shape := ⟨2, ![16, 512]⟩
abbrev S16x512x1 : Shape := ⟨3, ![16, 512, 1]⟩
abbrev S1 : Shape := ⟨1, ![1]⟩
abbrev S1x1x1 : Shape := ⟨3, ![1, 1, 1]⟩

abbrev nBuf : Space → Nat
  | .hbm => 182
  | .vmem => 0
  | .smem => 0
  | _ => 0

abbrev hbmTy0_0 (i : Nat) : BufTy := match i % 128 with
  | 0 => ⟨S4096, .i32⟩
  | 1 => ⟨S17, .i32⟩
  | 2 => ⟨S4096, .i32⟩
  | 3 => ⟨S17, .i32⟩
  | 4 => ⟨S16, .f32⟩
  | 5 => ⟨S16, .i32⟩
  | 6 => ⟨S16, .i32⟩
  | 7 => ⟨S16, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S_, .i32⟩
  | 15 => ⟨S16, .i32⟩
  | 16 => ⟨S16, .i32⟩
  | 17 => ⟨S16, .i32⟩
  | 18 => ⟨S_, .i32⟩
  | 19 => ⟨S16, .i32⟩
  | 20 => ⟨S16, .i32⟩
  | 21 => ⟨S16, .i32⟩
  | 22 => ⟨S512, .i32⟩
  | 23 => ⟨S1x512, .i32⟩
  | 24 => ⟨S16x1, .i32⟩
  | 25 => ⟨S16x1, .i32⟩
  | 26 => ⟨S_, .i32⟩
  | 27 => ⟨S1x512, .i32⟩
  | 28 => ⟨S1x512, .i1⟩
  | 29 => ⟨S16x512, .i32⟩
  | 30 => ⟨S16x512, .i32⟩
  | 31 => ⟨S16x512, .i1⟩
  | 32 => ⟨S16x512, .i1⟩
  | 33 => ⟨S16x512, .i1⟩
  | 34 => ⟨S_, .i32⟩
  | 35 => ⟨S16x1, .i32⟩
  | 36 => ⟨S16x1, .i32⟩
  | 37 => ⟨S16x512, .i32⟩
  | 38 => ⟨S16x512, .i32⟩
  | 39 => ⟨S16x512, .i1⟩
  | 40 => ⟨S_, .i32⟩
  | 41 => ⟨S16x1, .i32⟩
  | 42 => ⟨S16x1, .i32⟩
  | 43 => ⟨S16x512, .i32⟩
  | 44 => ⟨S16x512, .i32⟩
  | 45 => ⟨S16x512, .i1⟩
  | 46 => ⟨S_, .i32⟩
  | 47 => ⟨S16x1, .i32⟩
  | 48 => ⟨S16x1, .i32⟩
  | 49 => ⟨S16x1, .i32⟩
  | 50 => ⟨S16x512, .i32⟩
  | 51 => ⟨S16x512, .i32⟩
  | 52 => ⟨S16x512, .i1⟩
  | 53 => ⟨S16x512, .i1⟩
  | 54 => ⟨S16x1, .i32⟩
  | 55 => ⟨S_, .i32⟩
  | 56 => ⟨S16x1, .i32⟩
  | 57 => ⟨S16x1, .i32⟩
  | 58 => ⟨S16x512, .i32⟩
  | 59 => ⟨S16x512, .i32⟩
  | 60 => ⟨S16x512, .i1⟩
  | 61 => ⟨S16, .i32⟩
  | 62 => ⟨S16x1, .i32⟩
  | 63 => ⟨S16x512, .i32⟩
  | 64 => ⟨S16x512, .i32⟩
  | 65 => ⟨S16x512, .i32⟩
  | 66 => ⟨S_, .i32⟩
  | 67 => ⟨S16x512, .i32⟩
  | 68 => ⟨S16x512, .i32⟩
  | 69 => ⟨S_, .i32⟩
  | 70 => ⟨S_, .i32⟩
  | 71 => ⟨S_, .i32⟩
  | 72 => ⟨S16x512, .i32⟩
  | 73 => ⟨S16x512, .i32⟩
  | 74 => ⟨S_, .i32⟩
  | 75 => ⟨S16x512, .i32⟩
  | 76 => ⟨S16x512, .i32⟩
  | 77 => ⟨S16, .i32⟩
  | 78 => ⟨S16x1, .i32⟩
  | 79 => ⟨S16x512, .i32⟩
  | 80 => ⟨S16x512, .i32⟩
  | 81 => ⟨S16x512, .i32⟩
  | 82 => ⟨S16x512, .i32⟩
  | 83 => ⟨S16x512, .i32⟩
  | 84 => ⟨S_, .i32⟩
  | 85 => ⟨S16x512, .i32⟩
  | 86 => ⟨S16x512, .i32⟩
  | 87 => ⟨S_, .i32⟩
  | 88 => ⟨S_, .i32⟩
  | 89 => ⟨S_, .i32⟩
  | 90 => ⟨S16x512, .i32⟩
  | 91 => ⟨S16x512, .i32⟩
  | 92 => ⟨S_, .i32⟩
  | 93 => ⟨S16x512, .i32⟩
  | 94 => ⟨S16x512, .i32⟩
  | 95 => ⟨S_, .i32⟩
  | 96 => ⟨S16x512, .i32⟩
  | 97 => ⟨S16x512, .i1⟩
  | 98 => ⟨S_, .i32⟩
  | 99 => ⟨S16x512, .i32⟩
  | 100 => ⟨S16x512, .i32⟩
  | 101 => ⟨S16x512, .i32⟩
  | 102 => ⟨S16x512x1, .i32⟩
  | 103 => ⟨S1, .i32⟩
  | 104 => ⟨S_, .i32⟩
  | 105 => ⟨S16x512x1, .i32⟩
  | 106 => ⟨S16x512x1, .i1⟩
  | 107 => ⟨S1x1x1, .i32⟩
  | 108 => ⟨S16x512x1, .i32⟩
  | 109 => ⟨S16x512x1, .i1⟩
  | 110 => ⟨S16x512x1, .i1⟩
  | 111 => ⟨S_, .i1⟩
  | 112 => ⟨S16x512, .i1⟩
  | 113 => ⟨S16x512, .i32⟩
  | 114 => ⟨S_, .i32⟩
  | 115 => ⟨S16x512, .i32⟩
  | 116 => ⟨S16x512, .i32⟩
  | 117 => ⟨S_, .i32⟩
  | 118 => ⟨S16x512, .i32⟩
  | 119 => ⟨S16x512, .i1⟩
  | 120 => ⟨S_, .i32⟩
  | 121 => ⟨S16x512, .i32⟩
  | 122 => ⟨S16x512, .i32⟩
  | 123 => ⟨S16x512, .i32⟩
  | 124 => ⟨S16x512x1, .i32⟩
  | 125 => ⟨S1, .i32⟩
  | 126 => ⟨S_, .i32⟩
  | 127 => ⟨S16x512x1, .i32⟩
  | _ => ⟨S4096, .i32⟩

abbrev hbmTy0_1 (i : Nat) : BufTy := match i % 128 with
  | 0 => ⟨S16x512x1, .i1⟩
  | 1 => ⟨S1x1x1, .i32⟩
  | 2 => ⟨S16x512x1, .i32⟩
  | 3 => ⟨S16x512x1, .i1⟩
  | 4 => ⟨S16x512x1, .i1⟩
  | 5 => ⟨S_, .i1⟩
  | 6 => ⟨S16x512, .i1⟩
  | 7 => ⟨S16x512, .i32⟩
  | 8 => ⟨S_, .i32⟩
  | 9 => ⟨S16x512, .i32⟩
  | 10 => ⟨S16x512, .i32⟩
  | 11 => ⟨S_, .i32⟩
  | 12 => ⟨S1x512, .i32⟩
  | 13 => ⟨S1x512, .i1⟩
  | 14 => ⟨S_, .i32⟩
  | 15 => ⟨S_, .i32⟩
  | 16 => ⟨S16x512, .i32⟩
  | 17 => ⟨S16x512, .i32⟩
  | 18 => ⟨S16x512, .i32⟩
  | 19 => ⟨S16x512, .i32⟩
  | 20 => ⟨S16x512, .i32⟩
  | 21 => ⟨S_, .i32⟩
  | 22 => ⟨S_, .i32⟩
  | 23 => ⟨S16x512, .i32⟩
  | 24 => ⟨S16x512, .i32⟩
  | 25 => ⟨S16x512, .i32⟩
  | 26 => ⟨S_, .i32⟩
  | 27 => ⟨S_, .i32⟩
  | 28 => ⟨S16x512, .i1⟩
  | 29 => ⟨S16x512, .i32⟩
  | 30 => ⟨S16x512, .i32⟩
  | 31 => ⟨S16x1, .i32⟩
  | 32 => ⟨S_, .i32⟩
  | 33 => ⟨S16x1, .i32⟩
  | 34 => ⟨S16x1, .i32⟩
  | 35 => ⟨S16x512, .i32⟩
  | 36 => ⟨S16x512, .i32⟩
  | 37 => ⟨S16x512, .i1⟩
  | 38 => ⟨S16x512, .i32⟩
  | 39 => ⟨S_, .i32⟩
  | 40 => ⟨S16x1, .i32⟩
  | 41 => ⟨S16x1, .i32⟩
  | 42 => ⟨S16x512, .i32⟩
  | 43 => ⟨S16x512, .i32⟩
  | 44 => ⟨S16x512, .i1⟩
  | 45 => ⟨S16x1, .i32⟩
  | 46 => ⟨S_, .i32⟩
  | 47 => ⟨S16x1, .i32⟩
  | 48 => ⟨S16x1, .i32⟩
  | 49 => ⟨S16x512, .i32⟩
  | 50 => ⟨S16x512, .i32⟩
  | 51 => ⟨S16x512, .i1⟩
  | 52 => ⟨S16x512, .i1⟩
  | 53 => ⟨S16x512, .i32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_7 : Ref sig .tc := ⟨.hbm, 66, rfl⟩
abbrev main_v53 : Ref sig .tc := ⟨.hbm, 67, rfl⟩
abbrev main_v54 : Ref sig .tc := ⟨.hbm, 68, rfl⟩
abbrev main_c_8 : Ref sig .tc := ⟨.hbm, 69, rfl⟩
abbrev main_c_9 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_10 : Ref sig .tc := ⟨.hbm, 84, rfl⟩
abbrev main_v63 : Ref sig .tc := ⟨.hbm, 85, rfl⟩
abbrev main_v64 : Ref sig .tc := ⟨.hbm, 86, rfl⟩
abbrev main_c_11 : Ref sig .tc := ⟨.hbm, 87, rfl⟩
abbrev main_c_12 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v65 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_c_1 : Ref sig .tc := ⟨.hbm, 103, rfl⟩
abbrev main_call2_c_2 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_3 : Ref sig .tc := ⟨.hbm, 111, rfl⟩
abbrev main_call2_v12 : Ref sig .tc := ⟨.hbm, 112, rfl⟩
abbrev main_call2_v13 : Ref sig .tc := ⟨.hbm, 113, rfl⟩
abbrev main_call2_c_4 : Ref sig .tc := ⟨.hbm, 114, rfl⟩
abbrev main_call2_v14 : Ref sig .tc := ⟨.hbm, 115, rfl⟩
abbrev main_v66 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_c_4 : Ref sig .tc := ⟨.hbm, 136, rfl⟩
abbrev main_call3_v14 : Ref sig .tc := ⟨.hbm, 137, rfl⟩
abbrev main_v67 : Ref sig .tc := ⟨.hbm, 138, rfl⟩
abbrev main_c_13 : Ref sig .tc := ⟨.hbm, 139, rfl⟩
abbrev main_v68 : Ref sig .tc := ⟨.hbm, 140, rfl⟩
abbrev main_v69 : Ref sig .tc := ⟨.hbm, 141, rfl⟩
abbrev main_c_14 : Ref sig .tc := ⟨.hbm, 142, rfl⟩
abbrev main_c_15 : Ref sig .tc := ⟨.hbm, 143, rfl⟩
abbrev main_call4_v0 : Ref sig .tc := ⟨.hbm, 144, rfl⟩
abbrev main_call4_v1 : Ref sig .tc := ⟨.hbm, 145, rfl⟩
abbrev main_v70 : Ref sig .tc := ⟨.hbm, 146, rfl⟩
abbrev main_call5_v0 : Ref sig .tc := ⟨.hbm, 147, rfl⟩
abbrev main_v71 : Ref sig .tc := ⟨.hbm, 148, rfl⟩
abbrev main_c_16 : Ref sig .tc := ⟨.hbm, 149, rfl⟩
abbrev main_call6_v0 : Ref sig .tc := ⟨.hbm, 150, rfl⟩
abbrev main_call6_v1 : Ref sig .tc := ⟨.hbm, 151, rfl⟩
abbrev main_v72 : Ref sig .tc := ⟨.hbm, 152, rfl⟩
abbrev main_v73 : Ref sig .tc := ⟨.hbm, 153, rfl⟩
abbrev main_c_17 : Ref sig .tc := ⟨.hbm, 154, rfl⟩
abbrev main_call8_v0 : Ref sig .tc := ⟨.hbm, 155, rfl⟩
abbrev main_call8_v1 : Ref sig .tc := ⟨.hbm, 156, rfl⟩
abbrev main_call8_v2 : Ref sig .tc := ⟨.hbm, 157, rfl⟩
abbrev main_v74 : Ref sig .tc := ⟨.hbm, 158, rfl⟩
abbrev main_v75 : Ref sig .tc := ⟨.hbm, 159, rfl⟩
abbrev main_c_18 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_c_19 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_c_20 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩

abbrev nD : Nat := 1
abbrev τ : Topo := Topo.v7x

variable {F : FTy → Type} [FloatOps F]
-- ==== Proof.Words.lean ====
module

public import Idealize.ShloMosaic.PureOps

@[expose] public section

/-! # What the packed arrays hold, word by word

A row packs two token sequences after one another: a first mark, the first sequence, a separator, the second
sequence, a separator, and zeros to the end. Here the words of one position are written as functions of the row's
four boundary words and of the two token arrays, over 32-bit words, with no array operation. -/

noncomputable section

namespace Cert.Pack

open Idealize.ShloMosaic

/-- How many tokens of the first sequence are kept, from the two sequences' boundaries. -/
def keepW (a a' b b' : BitVec 32) : BitVec 32 :=
  IntOp.minsi (a' - a) (509#32 - IntOp.minsi (b' - b) 254#32)

/-- The last position in use: both kept lengths and two. -/
def lastW (a a' b b' : BitVec 32) : BitVec 32 :=
  keepW a a' b b' + IntOp.minsi (b' - b) (509#32 - keepW a a' b b') + 2#32

/-- A word brought into the token arrays' range. -/
def clipW (x : BitVec 32) : BitVec 32 := IntOp.minsi 4095#32 (IntOp.maxsi 0#32 x)

theorem clipW_lt (x : BitVec 32) : (clipW x).toNat < 4096 := by
  unfold clipW IntOp.minsi IntOp.maxsi
  split <;> split <;> rename_i h1 h2 <;>
    simp only [BitVec.slt_eq_decide, decide_eq_true_eq, BitVec.toInt_eq_toNat_cond, BitVec.toNat_ofNat, Nat.reducePow,
      Nat.reduceMod] at h1 h2 ⊢ <;> first | omega | (split at h1 <;> split at h2 <;> omega)

/-- The identifier at position `p`, from the tokens `g1` and `g2` of the two sequences there. -/
def idsW (t l p g1 g2 : BitVec 32) : BitVec 32 :=
  Scalar.select (IntOp.cmpi .eq p 0#32) 101#32
    (Scalar.select (IntOp.andi (IntOp.cmpi .sge p 1#32) (IntOp.cmpi .sle p t)) g1
      (Scalar.select (IntOp.cmpi .eq p (t + 1#32)) 102#32
        (Scalar.select (IntOp.andi (IntOp.cmpi .sge p (t + 2#32)) (IntOp.cmpi .sle p (l - 1#32))) g2
          (Scalar.select (IntOp.cmpi .eq p l) 102#32 0#32))))

/-- The mask at position `p`: one up to the last position in use. -/
def maskW (l p : BitVec 32) : BitVec 32 := (IntOp.cmpi .sle p l).setWidth 32

/-- The type at position `p`: one on the second sequence. -/
def typeW (t l p : BitVec 32) : BitVec 32 :=
  (IntOp.andi (IntOp.cmpi .sge p (t + 2#32)) (IntOp.cmpi .sle p l)).setWidth 32

/-! ## The arrays -/

/-- The token arrays' shape. -/
abbrev Toks : Shape := ⟨1, ![4096]⟩
/-- The boundary arrays' shape. -/
abbrev Bnds : Shape := ⟨1, ![17]⟩
/-- The packed arrays' shape. -/
abbrev Rows : Shape := ⟨2, ![16, 512]⟩

/-- Entry `k` of a boundary array. -/
abbrev bnd (cu : Bnds.Idx → BitVec 32) (k : Fin 17) : BitVec 32 := cu (Shape.ofLane (d := ![17]) k)

/-- The token at the word `clipW x`. -/
abbrev tokAt (tok : Toks.Idx → BitVec 32) (x : BitVec 32) : BitVec 32 :=
  tok (Shape.ofLane (d := ![4096]) ⟨(clipW x).toNat, clipW_lt x⟩)

section Rows

variable (tok1 : Toks.Idx → BitVec 32) (cu1 : Bnds.Idx → BitVec 32) (tok2 : Toks.Idx → BitVec 32) (cu2 : Bnds.Idx → BitVec 32)

/-- Row `r`'s kept length. -/
def keep (r : Fin 16) : BitVec 32 := keepW (bnd cu1 r.castSucc) (bnd cu1 r.succ) (bnd cu2 r.castSucc) (bnd cu2 r.succ)

/-- Row `r`'s last position in use. -/
def last (r : Fin 16) : BitVec 32 := lastW (bnd cu1 r.castSucc) (bnd cu1 r.succ) (bnd cu2 r.castSucc) (bnd cu2 r.succ)

/-- The identifiers, packed. -/
def idsOut : Rows.Idx → BitVec 32 := fun j =>
  idsW (keep cu1 cu2 (j 0)) (last cu1 cu2 (j 0)) (BitVec.ofNat 32 (j 1).val)
    (tokAt tok1 (bnd cu1 (Fin.castSucc (j 0)) + BitVec.ofNat 32 (j 1).val - 1#32))
    (tokAt tok2 (bnd cu2 (Fin.castSucc (j 0)) + BitVec.ofNat 32 (j 1).val - keep cu1 cu2 (j 0) - 2#32))

/-- The mask, packed. -/
def maskOut : Rows.Idx → BitVec 32 := fun j => maskW (last cu1 cu2 (j 0)) (BitVec.ofNat 32 (j 1).val)

/-- The types, packed. -/
def typeOut : Rows.Idx → BitVec 32 := fun j =>
  typeW (keep cu1 cu2 (j 0)) (last cu1 cu2 (j 0)) (BitVec.ofNat 32 (j 1).val)

end Rows

end Cert.Pack

end
-- ==== Proof.KernelIdeal.Steps.lean ====
module

public import proofs.«01_k».proof.Proof.Gen.KernelIdeal
public import proofs.«01_k».proof.Proof.Words

@[expose] public section

/-! # The kernel's body as a head, sixteen equal steps and a tail

The body handles one row's half: 256 positions, sixteen at a time. Here the step at sixteen positions is
written once, with the offset a parameter, and the printed body is shown to be the head (four copies in, the
row's four boundary words), the sixteen steps in order, and the tail (three copies out). -/

noncomputable section

namespace Cert.KernelIdeal.Pack

open Idealize.ShloMosaic Idealize.SL.Sem

variable {F : FTy → Type} [FloatOps F]

open Cert.KernelIdeal.Gen

/-! ## Words of a tile's place -/

/-- A tile's running number: two per vector subcore, one for each SparseCore. -/
def tileW (i : grid0.Coords) : BitVec 32 :=
  Scalar.addi (Scalar.muli (BitVec.ofNat 32 (i 1).val) 2#32) (BitVec.ofNat 32 (i 0).val)

/-- The tile's row: its number divided by two, rounded down, as the body computes it. -/
def rowW (i : grid0.Coords) : BitVec 32 :=
  Scalar.select
    (Scalar.andi
      (Scalar.cmpi .ne
        (Scalar.subi (Scalar.extui (Scalar.cmpi .sgt (tileW i) 0#32)) (Scalar.extui (Scalar.cmpi .slt (tileW i) 0#32)))
        (Scalar.subi (Scalar.extui (Scalar.cmpi .sgt 2#32 0#32)) (Scalar.extui (Scalar.cmpi .slt 2#32 0#32))))
      (Scalar.cmpi .ne (Scalar.remsi (tileW i) 2#32) 0#32))
    (Scalar.subi (Scalar.divsi (tileW i) 2#32) 1#32)
    (Scalar.divsi (tileW i) 2#32)

/-- The divisor two, guarded against zero as the body guards it. -/
def twoW : BitVec 32 := Scalar.select (Scalar.cmpi .eq 2#32 0#32) 1#32 2#32

/-- The tile's half of the row: its number's remainder by two. -/
def halfW (i : grid0.Coords) : BitVec 32 :=
  Scalar.select
    (Scalar.andi
      (Scalar.xori (Scalar.cmpi .slt (Scalar.remsi (tileW i) twoW) 0#32) (Scalar.cmpi .slt twoW 0#32))
      (Scalar.cmpi .ne (Scalar.remsi (tileW i) twoW) 0#32))
    (Scalar.addi (Scalar.remsi (tileW i) twoW) twoW)
    (Scalar.remsi (tileW i) twoW)

/-- The first position of the tile's half. -/
def baseW (i : grid0.Coords) : BitVec 32 := Scalar.muli (halfW i) 256#32

/-! ## Vectors of a step -/

/-- The row, one copy per lane. -/
def rowV (i : grid0.Coords) : IVec S16 32 := broadcast S16 (rowW i)

/-- The row after it, one copy per lane. -/
def nextV (i : grid0.Coords) : IVec S16 32 := addi (rowV i) (broadcast S16 1#32)

/-- The positions a step handles: lane, plus the step's offset, plus the half's first position. -/
def posV (i : grid0.Coords) (o : BitVec 32) : IVec S16 32 :=
  addi (addi (iota .scVector S16 32 [0] iota_S16_d0_w32_scVector) (broadcast S16 o)) (broadcast S16 (baseW i))

/-- How many tokens of the first sequence are kept. -/
def keepV (a a' b b' : IVec S16 32) : IVec S16 32 :=
  minsi (subi a' a) (subi (broadcast S16 509#32) (minsi (subi b' b) (broadcast S16 254#32)))

/-- The last position in use. -/
def lastV (a a' b b' : IVec S16 32) : IVec S16 32 :=
  addi (addi (keepV a a' b b') (minsi (subi b' b) (subi (broadcast S16 509#32) (keepV a a' b b')))) (broadcast S16 2#32)

/-- A word brought into the token array's range. -/
def clipV (x : IVec S16 32) : IVec S16 32 := minsi (broadcast S16 4095#32) (maxsi (broadcast S16 0#32) x)

/-- Where a position's token lies among the first sequence's tokens. -/
def at1V (a p : IVec S16 32) : IVec S16 32 := clipV (subi (addi a p) (broadcast S16 1#32))

/-- Where a position's token lies among the second sequence's tokens. -/
def at2V (b t p : IVec S16 32) : IVec S16 32 := clipV (subi (subi (addi b p) t) (broadcast S16 2#32))

/-- The identifiers at a step's positions, from the two tokens looked up. -/
def idsV (t l p g1 g2 : IVec S16 32) : IVec S16 32 :=
  select (cmpi .eq p (broadcast S16 0#32)) (broadcast S16 101#32)
    (select (andi (cmpi .sge p (broadcast S16 1#32)) (cmpi .sle p t)) g1
      (select (cmpi .eq p (addi t (broadcast S16 1#32))) (broadcast S16 102#32)
        (select (andi (cmpi .sge p (addi t (broadcast S16 2#32))) (cmpi .sle p (subi l (broadcast S16 1#32)))) g2
          (select (cmpi .eq p l) (broadcast S16 102#32) (broadcast S16 0#32)))))

/-- The mask at a step's positions: one up to the last position in use. -/
def maskV (l p : IVec S16 32) : IVec S16 32 := extui 32 (cmpi .sle p l) natLt_1_32

/-- The types at a step's positions: one on the second sequence. -/
def typeV (t l p : IVec S16 32) : IVec S16 32 :=
  extui 32 (andi (cmpi .sge p (addi t (broadcast S16 2#32))) (cmpi .sle p l)) natLt_1_32

/-! ## The programs -/

/-- A tile's programs. -/
abbrev TileProg (F : FTy → Type) [FloatOps F] (i : grid0.Coords) : Type → Type 1 :=
  Prog (TpuEff nD τ sig (Elt F) Λ₀ (.scVector ((i 0).castLE hcore0) ((i 1).castLE hsub0)))

section Prog

variable (i : grid0.Coords)
  (arg2 : Memref sig .scVector .hbm S4096 .i32) (harg2 : arg2.IsWhole)
  (arg3 : Memref sig .scVector .hbm S17 .i32) (harg3 : arg3.IsWhole)
  (arg4 : Memref sig .scVector .hbm S4096 .i32) (harg4 : arg4.IsWhole)
  (arg5 : Memref sig .scVector .hbm S17 .i32) (harg5 : arg5.IsWhole)
  (arg6 arg7 arg8 : Memref sig .scVector .hbm S16x512 .i32)
  (arg9 : Memref sig .scVector .vmem S17 .i32) (harg9 : arg9.IsWhole)
  (arg10 : Memref sig .scVector .vmem S17 .i32) (harg10 : arg10.IsWhole)
  (arg11 : Memref sig .scVector .vmem S4096 .i32) (harg11 : arg11.IsWhole)
  (arg12 : Memref sig .scVector .vmem S4096 .i32) (harg12 : arg12.IsWhole)
  (arg13 : Memref sig .scVector .vmem S256 .i32) (harg13 : arg13.IsWhole)
  (arg14 : Memref sig .scVector .vmem S256 .i32) (harg14 : arg14.IsWhole)
  (arg15 : Memref sig .scVector .vmem S256 .i32) (harg15 : arg15.IsWhole)

/-- One whole copy in, waited for. -/
def copyIn {s : Shape} (src : Memref sig .scVector .hbm s .i32) (hsrc : src.IsWhole)
    (dst : Memref sig .scVector .vmem s .i32) (hdst : dst.IsWhole) (q : DmaSem sig) : TileProg F i PUnit := do
  Prog.lift (.enqueueDma src (.here dst) (.dma q) hsrc.wordExact hdst.wordExact ⟨Or.inl rfl, trivial⟩)
  Prog.lift (.waitDma2 q src dst hsrc.wordExact hdst.wordExact)

/-- The tile's window of an output: its row's half, as one line of 256. -/
abbrev outWin (dst : Memref sig .scVector .hbm S16x512 .i32) : Memref sig .scVector .hbm S256 .i32 :=
  (dst.slice (Rect.unit (s := S16x512) (k0_off1 i) S1x256.size (k0_off1_inb i)) (fun _ => rfl)).squeeze S256 squeezes_S1x256_S256

/-- One copy out to the tile's window, waited for. -/
def copyOut (src : Memref sig .scVector .vmem S256 .i32) (hsrc : src.IsWhole)
    (dst : Memref sig .scVector .hbm S16x512 .i32) (q : DmaSem sig) : TileProg F i PUnit := do
  Prog.lift (.enqueueDma src (.here (outWin i dst)) (.dma q) hsrc.wordExact ((View.wordExact_bits rfl).reshape _ _) ⟨Or.inl rfl, trivial⟩)
  Prog.lift (.waitDma2 q src (outWin i dst) hsrc.wordExact ((View.wordExact_bits rfl).reshape _ _))

/-- A step's sixteen words written at its offset, after the read the body makes and does not use. -/
def put (m : Memref sig .scVector .vmem S256 .i32) (o : Nat) (ho : ∀ a, (![o] : Fin 1 → Nat) a + S16.size a ≤ S256.size a)
    (v : IVec S16 32) : TileProg F i PUnit := do
  let _ : Vec F S16 .i32 ← Prog.lift (.load m (Rect.unit (s := S256) ![o] S16.size ho).toLoadRect (View.loadsAt_vmem h_S16))
  Prog.lift (.store m (Rect.unit (s := S256) ![o] S16.size ho) (shapeCast S16 v shapeCasts_S16_S16) Finset.univ
    (View.stores_vmem_bits_univ h_S16 rfl) (.inl rfl))

/-- The step at offset `o`: two tokens looked up per position, then the three outputs' words put. -/
def step (a b t l : IVec S16 32) (o : Nat) (ho : ∀ a, (![o] : Fin 1 → Nat) a + S16.size a ≤ S256.size a) : TileProg F i PUnit := do
  have w1 : k0_chk4 (at1V a (posV i (BitVec.ofNat 32 o))) :=
    (← Prog.lift (TpuEff.assume (k0_chk4 (at1V a (posV i (BitVec.ofNat 32 o)))) (k0_chk4.dec _))).down
  have w2 : k0_chk4 (at2V b t (posV i (BitVec.ofNat 32 o))) :=
    (← Prog.lift (TpuEff.assume (k0_chk4 (at2V b t (posV i (BitVec.ofNat 32 o)))) (k0_chk4.dec _))).down
  let g1 : Vec F S16 .i32 ← SparseCore.vectorLoadIdx arg11 ![at1V a (posV i (BitVec.ofNat 32 o))] (k0_idx5_inb _ w1) (View.loads_vmem h_S4096)
  let g2 : Vec F S16 .i32 ← SparseCore.vectorLoadIdx arg12 ![at2V b t (posV i (BitVec.ofNat 32 o))] (k0_idx5_inb _ w2) (View.loads_vmem h_S4096)
  put i arg13 o ho (idsV t l (posV i (BitVec.ofNat 32 o)) g1 g2)
  put i arg14 o ho (maskV l (posV i (BitVec.ofNat 32 o)))
  put i arg15 o ho (typeV t l (posV i (BitVec.ofNat 32 o)))

/-- The step at offset `16 * n` stays inside its buffers. -/
theorem step_inb {n : Nat} (hn : n < 16) : ∀ a, (![16 * n] : Fin 1 → Nat) a + S16.size a ≤ S256.size a := by
  intro a; fin_cases a; show 16 * n + 16 ≤ 256; omega

/-- The last `k` of the sixteen steps, then `r`. -/
def steps (a b t l : IVec S16 32) : (k : Nat) → k ≤ 16 → TileProg F i PUnit → TileProg F i PUnit
  | 0, _, r => r
  | k + 1, hk, r => do
    step i arg11 arg12 arg13 arg14 arg15 a b t l (16 * (15 - k)) (step_inb (by omega))
    steps a b t l k (by omega) r

/-- The tail: the three outputs copied to their windows. -/
def tail (q4 q5 q6 : DmaSem sig) : TileProg F i PUnit := do
  copyOut i arg13 harg13 arg6 q4
  copyOut i arg14 harg14 arg7 q5
  copyOut i arg15 harg15 arg8 q6
  pure ⟨⟩

/-- The body: four copies in, the four boundary words, sixteen steps, three copies out. -/
def body (q0 q1 q2 q3 q4 q5 q6 : DmaSem sig) : TileProg F i PUnit := do
  copyIn i arg3 harg3 arg9 harg9 q0
  copyIn i arg5 harg5 arg10 harg10 q1
  copyIn i arg2 harg2 arg11 harg11 q2
  copyIn i arg4 harg4 arg12 harg12 q3
  have w1 : k0_chk1 (rowV i) := (← Prog.lift (TpuEff.assume (k0_chk1 (rowV i)) (k0_chk1.dec _))).down
  let a : Vec F S16 .i32 ← SparseCore.vectorLoadIdx arg9 ![rowV i] (k0_idx1_inb _ w1) (View.loads_vmem h_S17)
  have w2 : k0_chk2 (nextV i) := (← Prog.lift (TpuEff.assume (k0_chk2 (nextV i)) (k0_chk2.dec _))).down
  let a' : Vec F S16 .i32 ← SparseCore.vectorLoadIdx arg9 ![nextV i] (k0_idx2_inb _ w2) (View.loads_vmem h_S17)
  let b : Vec F S16 .i32 ← SparseCore.vectorLoadIdx arg10 ![rowV i] (k0_idx3_inb _ w1) (View.loads_vmem h_S17)
  have w3 : k0_chk3 (nextV i) := (← Prog.lift (TpuEff.assume (k0_chk3 (nextV i)) (k0_chk3.dec _))).down
  let b' : Vec F S16 .i32 ← SparseCore.vectorLoadIdx arg10 ![nextV i] (k0_idx4_inb _ w3) (View.loads_vmem h_S17)
  steps i arg11 arg12 arg13 arg14 arg15 a b (keepV a a' b b') (lastV a a' b b') 16 le_rfl
    (tail i arg6 arg7 arg8 arg13 harg13 arg14 harg14 arg15 harg15 q4 q5 q6)

end Prog

set_option maxRecDepth 1000000 in
set_option maxHeartbeats 4000000 in
/-- The printed body is the head, the sixteen steps and the tail. -/
theorem kernel_eq (i : grid0.Coords) (arg2 harg2 arg3 harg3 arg4 harg4 arg5 harg5 arg6 harg6 arg7 harg7 arg8 harg8 arg9 harg9
    arg10 harg10 arg11 harg11 arg12 harg12 arg13 harg13 arg14 harg14 arg15 harg15 r0 r1 r2 r3 r4 r5 r6) :
    (cc0__pack_kernel i arg2 harg2 arg3 harg3 arg4 harg4 arg5 harg5 arg6 harg6 arg7 harg7 arg8 harg8 arg9 harg9 arg10 harg10
      arg11 harg11 arg12 harg12 arg13 harg13 arg14 harg14 arg15 harg15 r0 r1 r2 r3 r4 r5 r6 : TileProg F i PUnit)
      = body i arg2 harg2 arg3 harg3 arg4 harg4 arg5 harg5 arg6 arg7 arg8 arg9 harg9 arg10 harg10 arg11 harg11 arg12 harg12
          arg13 harg13 arg14 harg14 arg15 harg15 r0.sem r1.sem r2.sem r3.sem r4.sem r5.sem r6.sem := by
  rfl

/-! ## The step's words, lane by lane -/

theorem rowW_eq : ∀ i : grid0.Coords, rowW i = BitVec.ofNat 32 (i 1).val := by decide +kernel

theorem baseW_eq : ∀ i : grid0.Coords, baseW i = BitVec.ofNat 32 (256 * (i 0).val) := by decide +kernel

theorem rowV_apply (i : grid0.Coords) (x : S16.Idx) : rowV i x = BitVec.ofNat 32 (i 1).val := rowW_eq i

theorem nextV_apply (i : grid0.Coords) (x : S16.Idx) : nextV i x = BitVec.ofNat 32 ((i 1).val + 1) := by
  show rowW i + 1#32 = _; rw [rowW_eq, BitVec.ofNat_add]

/-- Lane `x` of the step at offset `o` handles position `256 * half + (o + x)`. -/
theorem posV_apply (i : grid0.Coords) (o : Nat) (x : S16.Idx) :
    posV i (BitVec.ofNat 32 o) x = BitVec.ofNat 32 (256 * (i 0).val + (o + (x 0).val)) := by
  show BitVec.ofNat 32 (0 * S16.size 0 + (x 0).val) + BitVec.ofNat 32 o + baseW i = _
  rw [baseW_eq, Nat.zero_mul, Nat.zero_add, ← BitVec.ofNat_add, ← BitVec.ofNat_add]
  congr 1; omega

open Cert.Pack

theorem keepV_apply (a a' b b' : IVec S16 32) (x : S16.Idx) : keepV a a' b b' x = keepW (a x) (a' x) (b x) (b' x) := rfl
theorem lastV_apply (a a' b b' : IVec S16 32) (x : S16.Idx) : lastV a a' b b' x = lastW (a x) (a' x) (b x) (b' x) := rfl
theorem at1V_apply (a p : IVec S16 32) (x : S16.Idx) : at1V a p x = clipW (a x + p x - 1#32) := rfl
theorem at2V_apply (b t p : IVec S16 32) (x : S16.Idx) : at2V b t p x = clipW (b x + p x - t x - 2#32) := rfl
theorem idsV_apply (t l p g1 g2 : IVec S16 32) (x : S16.Idx) : idsV t l p g1 g2 x = idsW (t x) (l x) (p x) (g1 x) (g2 x) := rfl
theorem maskV_apply (l p : IVec S16 32) (x : S16.Idx) : maskV l p x = maskW (l x) (p x) := rfl
theorem typeV_apply (t l p : IVec S16 32) (x : S16.Idx) : typeV t l p x = typeW (t x) (l x) (p x) := rfl

/-- A clipped index vector is inside a token array. -/
theorem clipV_chk (v : IVec S16 32) : k0_chk4 (clipV v) := by
  intro a x; fin_cases a; exact clipW_lt (v x)

end Cert.KernelIdeal.Pack

end
-- ==== Proof.KernelIdeal.Tile.lean ====
module

public import proofs.«01_k».proof.Proof.KernelIdeal.Steps
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

/-! # One tile's run

A tile holds a read share of each of the four input arrays and its own half row of each output. It leaves the half
rows at the packed arrays' words. -/

noncomputable section

namespace Cert.KernelIdeal.Pack

open Cert.KernelIdeal Cert.KernelIdeal.Gen Cert.Pack

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- A tile's SparseCore and vector subcore. -/
abbrev cV (L : grid0.Coords) : Fin τ.nSC := (L 0).castLE hcore0
abbrev jV (L : grid0.Coords) : Fin τ.nSub := (L 1).castLE hsub0

abbrev t1Loc (d : Dev nD) : Loc nD τ sig := (SparseCore.T d).loc main_arg0
abbrev c1Loc (d : Dev nD) : Loc nD τ sig := (SparseCore.T d).loc main_arg1
abbrev t2Loc (d : Dev nD) : Loc nD τ sig := (SparseCore.T d).loc main_arg2
abbrev c2Loc (d : Dev nD) : Loc nD τ sig := (SparseCore.T d).loc main_arg3
abbrev lbLoc (d : Dev nD) : Loc nD τ sig := (SparseCore.T d).loc main_arg4
abbrev o0Loc (d : Dev nD) : Loc nD τ sig := (SparseCore.T d).loc main_v0_0
abbrev o1Loc (d : Dev nD) : Loc nD τ sig := (SparseCore.T d).loc main_v0_1
abbrev o2Loc (d : Dev nD) : Loc nD τ sig := (SparseCore.T d).loc main_v0_2

abbrev t1V : Memref sig .scVector .hbm S4096 .i32 := Memref.whole main_arg0_scv
abbrev c1V : Memref sig .scVector .hbm S17 .i32 := Memref.whole main_arg1_scv
abbrev t2V : Memref sig .scVector .hbm S4096 .i32 := Memref.whole main_arg2_scv
abbrev c2V : Memref sig .scVector .hbm S17 .i32 := Memref.whole main_arg3_scv
abbrev o0V : Memref sig .scVector .hbm S16x512 .i32 := Memref.whole main_v0_0_scv
abbrev o1V : Memref sig .scVector .hbm S16x512 .i32 := Memref.whole main_v0_1_scv
abbrev o2V : Memref sig .scVector .hbm S16x512 .i32 := Memref.whole main_v0_2_scv
abbrev s0V : Memref sig .scVector .vmem S17 .i32 := Memref.whole cc0_scratch0
abbrev s1V : Memref sig .scVector .vmem S17 .i32 := Memref.whole cc0_scratch1
abbrev s2V : Memref sig .scVector .vmem S4096 .i32 := Memref.whole cc0_scratch2
abbrev s3V : Memref sig .scVector .vmem S4096 .i32 := Memref.whole cc0_scratch3
abbrev s4V : Memref sig .scVector .vmem S256 .i32 := Memref.whole cc0_scratch4
abbrev s5V : Memref sig .scVector .vmem S256 .i32 := Memref.whole cc0_scratch5
abbrev s6V : Memref sig .scVector .vmem S256 .i32 := Memref.whole cc0_scratch6

variable [FloatOps F]

/-! ## A step's sixteen words put into an output's buffer -/

section Put

variable (d : Dev nD) (L : grid0.Coords)

/-- The buffer's first `16 * n` words are `out`'s. -/
def Filled (b : Memref sig .scVector .vmem S256 .i32) (n : Nat) (out : S256.Idx → BitVec 32)
    (f : b.view.ty.Contents (Elt F)) : Prop :=
  ∀ x : S256.Idx, (x 0).val < 16 * n → b.view.read (Elt F) f x = out x

/-- The buffer, its first `16 * n` words `out`'s. -/
def part (b : Memref sig .scVector .vmem S256 .i32) (n : Nat) (out : S256.Idx → BitVec 32) : sProp 𝕄 :=
  iprop(∃ f, ⌜Filled (F := F) b n out f⌝ ∗ b.view.loc (V d (cV L) (jV L)) ↦{fullShare} f)

/-- Word `16 * n + x` of a buffer of 256. -/
def at16 (n : Nat) (hn : n < 16) (x : S16.Idx) : S256.Idx :=
  Shape.ofLane (d := ![256]) ⟨16 * n + (x 0).val, by have h : (x 0).val < 16 := (x 0).isLt; show _ < 256; omega⟩

theorem emb_at16 (n : Nat) (hn : n < 16) (ho : ∀ a, (![16 * n] : Fin 1 → Nat) a + S16.size a ≤ S256.size a) (x : S16.Idx) :
    (Rect.unit (s := S256) ![16 * n] S16.size ho).emb x = at16 n hn x := by
  funext a; apply Fin.ext; fin_cases a
  show 16 * n + 1 * (x 0).val = 16 * n + (x 0).val; omega

theorem filled_put (b : Memref sig .scVector .vmem S256 .i32) (n : Nat) (hn : n < 16) (out : S256.Idx → BitVec 32) (ho : ∀ a, (![16 * n] : Fin 1 → Nat) a + S16.size a ≤ S256.size a)
    (v : IVec S16 32) (hv : ∀ x, v x = out (at16 n hn x)) (f : b.view.ty.Contents (Elt F))
    (hf : Filled (F := F) b n out f) :
    Filled (F := F) b (n + 1) out
      ((b.access (Rect.unit (s := S256) ![16 * n] S16.size ho)).write (Elt F) f (shapeCast S16 v shapeCasts_S16_S16) Finset.univ) := by
  intro x hx
  by_cases h : (x 0).val < 16 * n
  · refine (View.read_slice_write_of_not_mem (v := b.view) _ f _ _ ?_).trans (hf x h)
    intro hm
    obtain ⟨y, -, hy⟩ := Finset.mem_map.mp hm
    rw [emb_at16 n hn] at hy
    subst hy
    have : (at16 n hn y 0).val = 16 * n + (y 0).val := rfl
    omega
  · have e : x = (Rect.unit (s := S256) ![16 * n] S16.size ho).emb
        (Shape.ofLane (d := ![16]) ⟨(x 0).val - 16 * n, by show _ < 16; omega⟩ : S16.Idx) := by
      rw [emb_at16 n hn]; funext a; apply Fin.ext; fin_cases a
      show (x 0).val = 16 * n + ((x 0).val - 16 * n); omega
    rw [e]
    refine (View.read_slice_write_emb (v := b.view) _ f _ (Finset.mem_univ _)).trans ?_
    rw [emb_at16 n hn, ← hv]
    exact congrArg v (Shape.reshapeEquiv_self _ _)

theorem wp_put (b : Memref sig .scVector .vmem S256 .i32) (n : Nat) (hn : n < 16) (out : S256.Idx → BitVec 32) (ho : ∀ a, (![16 * n] : Fin 1 → Nat) a + S16.size a ≤ S256.size a)
    (v : IVec S16 32) (hv : ∀ x, v x = out (at16 n hn x)) (k : PUnit → TileProg F L PUnit) (Q : PUnit → sProp 𝕄) :
    part d L b n out ⊢ iprop((part d L b (n + 1) out -∗ wp frame (wpE (defs₀ (F := F)) 𝒱₀ (V d (cV L) (jV L)) none) Set.univ (k ⟨⟩) Q)
      -∗ wp frame (wpE (defs₀ (F := F)) 𝒱₀ (V d (cV L) (jV L)) none) Set.univ (put L b (16 * n) ho v >>= k) Q) := by
  unfold part
  iintro ⟨%f, %hf, H⟩ Hk
  iapply (wp_load 𝒱₀ (V d (cV L) (jV L)) none Set.univ (m := b) (S := Finset.univ) (Finset.subset_univ _)) $$ H
  iintro H
  iapply (wp_store 𝒱₀ (V d (cV L) (jV L)) none Set.univ (m := b) (r := Rect.unit (s := S256) ![16 * n] S16.size ho)
    (Mk := Finset.univ) (S := Finset.univ) (Finset.subset_univ _)) $$ H
  iintro H
  iapply Hk
  iexists _
  isplitr
  swap; · iexact H
  ipureintro
  exact filled_put b n hn out ho v hv f hf

end Put

/-! ## One step, and the sixteen -/

section Step

variable (d : Dev nD) (L : grid0.Coords)
  (tok1 : Toks.Idx → BitVec 32) (cu1 : Bnds.Idx → BitVec 32) (tok2 : Toks.Idx → BitVec 32) (cu2 : Bnds.Idx → BitVec 32)

/-- The row a tile works on. -/
abbrev rowOf (L : grid0.Coords) : Fin 16 := L 1

/-- Where word `x` of a tile's half row lies in an output. -/
def cell (L : grid0.Coords) (x : S256.Idx) : S16x512.Idx :=
  Shape.pair (d := ![16, 512]) (rowOf L) ⟨256 * (L 0).val + (x 0).val, by
    have h0 : (L 0).val < 2 := (L 0).isLt
    have h1 : (x 0).val < 256 := (x 0).isLt
    show _ < 512; omega⟩

/-- The vectors hold, in every lane, the row's two starts, its kept length and its last position in use. -/
structure RowWords (a b t l : IVec S16 32) : Prop where
  a_eq : ∀ x, a x = bnd cu1 (Fin.castSucc (rowOf L))
  b_eq : ∀ x, b x = bnd cu2 (Fin.castSucc (rowOf L))
  t_eq : ∀ x, t x = keep cu1 cu2 (rowOf L)
  l_eq : ∀ x, l x = last cu1 cu2 (rowOf L)

/-- Tokens looked up at clipped indices. -/
theorem loadIdx_clip (tok : Toks.Idx → BitVec 32) (v : IVec S16 32)
    (h : ∀ a x, ((![clipV v] : Fin 1 → IVec S16 32) a x).toNat < S4096.size a) (x : S16.Idx) :
    loadIdx (F := F) (s := S4096) (e := .i32) (t := S16) tok ![clipV v] h x = tokAt tok (v x) := by
  refine congrArg tok (funext fun a => Fin.ext ?_)
  fin_cases a; rfl

/-- The position of lane `x` of step `n` is its cell's column. -/
theorem posV_cell (n : Nat) (hn : n < 16) (x : S16.Idx) :
    posV L (BitVec.ofNat 32 (16 * n)) x = BitVec.ofNat 32 (cell L (at16 n hn x) 1).val := by
  rw [posV_apply]; rfl

variable {cu1 cu2 L} in
/-- A step's three vectors are the packed arrays' words at its cells. -/
theorem step_words {a b t l : IVec S16 32} (hr : RowWords L cu1 cu2 a b t l) (n : Nat) (hn : n < 16) (h1 h2) (x : S16.Idx) :
    idsV t l (posV L (BitVec.ofNat 32 (16 * n)))
        (loadIdx (F := F) (s := S4096) (e := .i32) (t := S16) tok1 ![at1V a (posV L (BitVec.ofNat 32 (16 * n)))] h1)
        (loadIdx (F := F) (s := S4096) (e := .i32) (t := S16) tok2 ![at2V b t (posV L (BitVec.ofNat 32 (16 * n)))] h2) x
      = idsOut tok1 cu1 tok2 cu2 (cell L (at16 n hn x))
    ∧ maskV l (posV L (BitVec.ofNat 32 (16 * n))) x = maskOut cu1 cu2 (cell L (at16 n hn x))
    ∧ typeV t l (posV L (BitVec.ofNat 32 (16 * n))) x = typeOut cu1 cu2 (cell L (at16 n hn x)) := by
  refine ⟨?_, ?_, ?_⟩
  · refine (congrArg₂ (idsW (t x) (l x) _) (loadIdx_clip (F := F) tok1 (subi (addi a _) (broadcast S16 1#32)) h1 x)
      (loadIdx_clip (F := F) tok2 (subi (subi (addi b _) t) (broadcast S16 2#32)) h2 x)).trans ?_
    simp only [addi, subi, broadcast, IntOp.addi, IntOp.subi, hr.a_eq, hr.b_eq, hr.t_eq, hr.l_eq, posV_cell L n hn]
    rfl
  · rw [maskV_apply, hr.l_eq, posV_cell L n hn]; rfl
  · rw [typeV_apply, hr.t_eq, hr.l_eq, posV_cell L n hn]; rfl

/-- The two token buffers, and the three outputs' buffers with their first `16 * n` words done. -/
def state (n : Nat) : sProp 𝕄 :=
  iprop(((s2V).view.loc (V d (cV L) (jV L)) ↦{fullShare} tok1) ∗ ((s3V).view.loc (V d (cV L) (jV L)) ↦{fullShare} tok2)
    ∗ part d L s4V n (fun x => idsOut tok1 cu1 tok2 cu2 (cell L x)) ∗ part d L s5V n (fun x => maskOut cu1 cu2 (cell L x))
    ∗ part d L s6V n (fun x => typeOut cu1 cu2 (cell L x)))

/-- A step before the rest, its two checks and two lookups in front. -/
theorem step_bind (a b t l : IVec S16 32) (o : Nat) (ho : ∀ a, (![o] : Fin 1 → Nat) a + S16.size a ≤ S256.size a)
    (k : PUnit → TileProg F L PUnit) :
    (step L s2V s3V s4V s5V s6V a b t l o ho >>= k : TileProg F L PUnit)
      = .op (.assume (k0_chk4 (at1V a (posV L (BitVec.ofNat 32 o)))) (k0_chk4.dec _)) fun w1 =>
        .op (.assume (k0_chk4 (at2V b t (posV L (BitVec.ofNat 32 o)))) (k0_chk4.dec _)) fun w2 =>
        (SparseCore.vectorLoadIdx s2V ![at1V a (posV L (BitVec.ofNat 32 o))] (k0_idx5_inb _ w1.down) (View.loads_vmem h_S4096)
          : TileProg F L (Vec F S16 .i32)) >>= fun g1 =>
        (SparseCore.vectorLoadIdx s3V ![at2V b t (posV L (BitVec.ofNat 32 o))] (k0_idx5_inb _ w2.down) (View.loads_vmem h_S4096)
          : TileProg F L (Vec F S16 .i32)) >>= fun g2 =>
        put L s4V o ho (idsV t l (posV L (BitVec.ofNat 32 o)) g1 g2) >>= fun _ =>
        put L s5V o ho (maskV l (posV L (BitVec.ofNat 32 o))) >>= fun _ =>
        put L s6V o ho (typeV t l (posV L (BitVec.ofNat 32 o))) >>= k := rfl

theorem wp_step {a b t l : IVec S16 32} (hr : RowWords L cu1 cu2 a b t l) (n : Nat) (hn : n < 16)
    (ho : ∀ a, (![16 * n] : Fin 1 → Nat) a + S16.size a ≤ S256.size a) (k : PUnit → TileProg F L PUnit) (Q : PUnit → sProp 𝕄) :
    state d L tok1 cu1 tok2 cu2 n
      ⊢ iprop((state d L tok1 cu1 tok2 cu2 (n + 1) -∗ wp frame (wpE (defs₀ (F := F)) 𝒱₀ (V d (cV L) (jV L)) none) Set.univ (k ⟨⟩) Q)
        -∗ wp frame (wpE (defs₀ (F := F)) 𝒱₀ (V d (cV L) (jV L)) none) Set.univ
            (step L s2V s3V s4V s5V s6V a b t l (16 * n) ho >>= k) Q) := by
  unfold state
  rw [step_bind, wp_assume_of _ _ _ _ (show k0_chk4 (at1V a (posV L (BitVec.ofNat 32 (16 * n)))) from clipV_chk _),
    wp_assume_of _ _ _ _ (show k0_chk4 (at2V b t (posV L (BitVec.ofNat 32 (16 * n)))) from clipV_chk _)]
  have e2 : ((s2V).access (.whole S4096)).read (Elt F) tok1 = tok1 := Memref.read_access_whole _ _ _
  have e3 : (s3V.access (.whole S4096)).read (Elt F) tok2 = tok2 := Memref.read_access_whole _ _ _
  have hw := step_words (F := F) tok1 tok2 hr n hn (clipV_chk _) (clipV_chk _)
  iintro ⟨H2, H3, H4, H5, H6⟩ Hk
  iapply (SparseCore.wp_vectorLoadIdx 𝒱₀ (V d (cV L) (jV L)) none Set.univ (base := s2V) (S := Finset.univ) (q := fullShare)
    (f := tok1) (Finset.subset_univ _)) $$ H2
  iintro H2
  rw [e2]
  iapply (SparseCore.wp_vectorLoadIdx 𝒱₀ (V d (cV L) (jV L)) none Set.univ (base := s3V) (S := Finset.univ) (q := fullShare)
    (f := tok2) (Finset.subset_univ _)) $$ H3
  iintro H3
  rw [e3]
  iapply (wp_put d L s4V n hn (fun x => idsOut tok1 cu1 tok2 cu2 (cell L x)) ho _ (fun x => (hw x).1)) $$ H4
  iintro H4
  iapply (wp_put d L s5V n hn (fun x => maskOut cu1 cu2 (cell L x)) ho _ (fun x => (hw x).2.1)) $$ H5
  iintro H5
  iapply (wp_put d L s6V n hn (fun x => typeOut cu1 cu2 (cell L x)) ho _ (fun x => (hw x).2.2)) $$ H6
  iintro H6
  iapply Hk
  isplitl [H2]; · iexact H2
  isplitl [H3]; · iexact H3
  isplitl [H4]; · iexact H4
  isplitl [H5]; · iexact H5
  iexact H6

/-- The last `k` steps, from sixteen less `k` done to all done. -/
theorem wp_steps {a b t l : IVec S16 32} (hr : RowWords L cu1 cu2 a b t l) (r : TileProg F L PUnit) (Q : PUnit → sProp 𝕄) :
    ∀ (k : Nat) (hk : k ≤ 16), state d L tok1 cu1 tok2 cu2 (16 - k)
      ⊢ iprop((state d L tok1 cu1 tok2 cu2 16 -∗ wp frame (wpE (defs₀ (F := F)) 𝒱₀ (V d (cV L) (jV L)) none) Set.univ r Q)
        -∗ wp frame (wpE (defs₀ (F := F)) 𝒱₀ (V d (cV L) (jV L)) none) Set.univ
            (steps L s2V s3V s4V s5V s6V a b t l k hk r) Q)
  | 0, _ => by
    unfold steps
    iintro H Hk
    iapply Hk; iexact H
  | k + 1, hk => by
    unfold steps
    rw [show 16 - (k + 1) = 15 - k by omega]
    iintro H Hk
    iapply (wp_step d L tok1 cu1 tok2 cu2 hr (15 - k) (by omega) _ _ _) $$ H
    iintro H
    ihave H := (Entails.of_eq (congrArg (state (F := F) d L tok1 cu1 tok2 cu2) (show 15 - k + 1 = 16 - k by omega))) $$ H
    iapply (wp_steps hr r Q k (Nat.le_of_succ_le hk)) $$ H
    iexact Hk

end Step

/-! ## A tile's own cells and buffers -/

/-- The members of a list taken out of a family, one after another. -/
theorem bigSep_peel {I : Type} [DecidableEq I] (Φ : I → sProp 𝕄) :
    ∀ (l : List I) (S : Finset I), l.Nodup → (∀ x ∈ l, x ∈ S) →
      bigSep S Φ = l.foldr (fun x P => iprop(Φ x ∗ P)) (bigSep (S \ l.toFinset) Φ)
  | [], S, _, _ => by simp
  | x :: l, S, hn, hs => by
    have hx := List.nodup_cons.mp hn
    rw [SparseCore.bigSep_erase' (hs x List.mem_cons_self),
      bigSep_peel Φ l (S.erase x) hx.2 fun y hy =>
        Finset.mem_erase.mpr ⟨fun e => hx.1 (e ▸ hy), hs y (List.mem_cons_of_mem _ hy)⟩,
      show S.erase x \ l.toFinset = S \ (x :: l).toFinset by
        rw [List.toFinset_cons, Finset.sdiff_insert, Finset.erase_sdiff_comm]]
    rfl

section Tile

variable (d : Dev nD) (L : grid0.Coords)

/-- The cell a copy is counted on. -/
abbrev cellOf (L : grid0.Coords) (q : DmaSem sig) : GSem nD τ sig := (V d (cV L) (jV L), .dma q)

/-- The seven copies' semaphores. -/
abbrev semList : List (DmaSem sig) :=
  [cc0_scoped0.sem, cc0_scoped1.sem, cc0_scoped2.sem, cc0_scoped3.sem, cc0_scoped4.sem, cc0_scoped5.sem, cc0_scoped6.sem]

/-- The tile's other cells. -/
abbrev restCells : Finset (GSem nD τ sig) := ownCells (V d (cV L) (jV L)) \ (semList.map (cellOf d L)).toFinset

theorem ownSems0_V :
    (ownSems0 (V d (cV L) (jV L)) : sProp 𝕄)
      = iprop(semVal (cellOf d L cc0_scoped0.sem) 0 ∗ semVal (cellOf d L cc0_scoped1.sem) 0 ∗ semVal (cellOf d L cc0_scoped2.sem) 0
          ∗ semVal (cellOf d L cc0_scoped3.sem) 0 ∗ semVal (cellOf d L cc0_scoped4.sem) 0 ∗ semVal (cellOf d L cc0_scoped5.sem) 0
          ∗ semVal (cellOf d L cc0_scoped6.sem) 0 ∗ bigSep (restCells d L) fun g => semVal g 0) :=
  bigSep_peel (F := F) _ (semList.map (cellOf d L)) _
    (List.Nodup.map (fun _ _ e => SemLoc.dma.inj (Prod.ext_iff.mp e).2) (by decide))
    (fun g hg => by
      obtain ⟨q, hq, rfl⟩ := List.mem_map.mp hg
      exact mem_ownCells.mpr ⟨rfl, (by decide : ∀ q ∈ semList, (SemLoc.dma q : SemLoc sig).isScoped .scVector = true) q hq⟩)

/-- A buffer of the tile's, as its core knows it. -/
abbrev devOf (L : grid0.Coords) (b : Ref sig .scVector) : DevRef τ sig := (Proc.scVector (cV L) (jV L)).devRef b

/-- The seven scratch buffers. -/
abbrev bufList : List (Ref sig .scVector) :=
  [cc0_scratch0, cc0_scratch1, cc0_scratch2, cc0_scratch3, cc0_scratch4, cc0_scratch5, cc0_scratch6]

/-- The tile's other buffers. -/
abbrev restBufs : Finset (DevRef τ sig) := ownRefs (τ := τ) (.scVector (cV L) (jV L)) \ (bufList.map (devOf L)).toFinset

/-- A buffer of the tile's at some contents. -/
abbrev someBuf (b : Ref sig .scVector) : sProp 𝕄 := iprop(∃ f, (V d (cV L) (jV L)).loc b ↦{fullShare} f)

theorem ownBufs_V :
    (ownBufs (V d (cV L) (jV L)) : sProp 𝕄)
      = iprop(someBuf d L cc0_scratch0 ∗ someBuf d L cc0_scratch1 ∗ someBuf d L cc0_scratch2 ∗ someBuf d L cc0_scratch3
          ∗ someBuf d L cc0_scratch4 ∗ someBuf d L cc0_scratch5 ∗ someBuf d L cc0_scratch6
          ∗ bigSep (restBufs L) fun b => iprop(∃ f, ((d, b) : Loc nD τ sig) ↦{fullShare} f)) :=
  bigSep_peel (F := F) _ (bufList.map (devOf L)) _
    (List.Nodup.map (fun _ _ e => Proc.devRef_injective _ e) (by decide))
    (fun g hg => by
      obtain ⟨b, hb, rfl⟩ := List.mem_map.mp hg
      refine SparseCore.Cfg.mem_ownRefs_of_owner (p := Proc.scVector (cV L) (jV L)) ?_
      simp only [bufList, List.mem_cons, List.not_mem_nil, or_false] at hb
      rcases hb with rfl | rfl | rfl | rfl | rfl | rfl | rfl <;> rfl)

/-! ## The tile's half rows -/

/-- The cells of an output tile `(c, s)` writes: row `s`, columns `256 * c` to `256 * c + 255`. -/
def win (c : Fin 2) (s : Fin 16) : Finset S16x512.Idx :=
  Finset.univ.filter fun j => (j 0).val = s.val ∧ (j 1).val / 256 = c.val

theorem cell_mem_win (x : S256.Idx) : cell L x ∈ win (L 0) (L 1) := by
  have h : (x 0).val < 256 := (x 0).isLt
  refine Finset.mem_filter.mpr ⟨Finset.mem_univ _, rfl, ?_⟩
  show (256 * (L 0).val + (x 0).val) / 256 = (L 0).val
  omega

theorem exists_cell {j : S16x512.Idx} (h : j ∈ win (L 0) (L 1)) : ∃ x, cell L x = j := by
  obtain ⟨-, h0, h1⟩ := Finset.mem_filter.mp h
  refine ⟨Shape.ofLane (d := ![256]) ⟨(j 1).val % 256, Nat.mod_lt _ (by decide)⟩, ?_⟩
  funext a; apply Fin.ext; fin_cases a
  · exact h0.symm
  · show 256 * (L 0).val + (j 1).val % 256 = (j 1).val
    rw [← h1]; exact Nat.div_add_mod _ _

theorem off_eq : ∀ L : grid0.Coords, k0_off1 L 0 = (L 1).val ∧ k0_off1 L 1 = 256 * (L 0).val := by decide +kernel

theorem emb_outWin (o : Memref sig .scVector .hbm S16x512 .i32) (x : S256.Idx) :
    (outWin L o).view.emb x = o.view.emb (cell L x) := by
  show o.view.emb ((Rect.unit (s := S16x512) (k0_off1 L) S1x256.size (k0_off1_inb L)).emb
    (Shape.reshapeEquiv squeezes_S1x256_S256.numel_eq x)) = _
  refine congrArg _ ?_
  rw [show Shape.reshapeEquiv squeezes_S1x256_S256.numel_eq x = Fin.cons ⟨0, Nat.one_pos⟩ x from
    Shape.reshapeEquiv_cons_one (d := ![256]) _ x]
  funext a; apply Fin.ext; fin_cases a
  · show k0_off1 L 0 + 1 * 0 = (L 1).val
    rw [(off_eq L).1]; rfl
  · show k0_off1 L 1 + 1 * (x 0).val = 256 * (L 0).val + (x 0).val
    rw [(off_eq L).2, Nat.one_mul]

/-- An output's cells seen from its tile. -/
theorem set_o0 : (outWin L o0V).view.set = win (L 0) (L 1) := by
  ext j; constructor
  · intro h
    obtain ⟨x, -, rfl⟩ := Finset.mem_map.mp h
    rw [emb_outWin]; exact cell_mem_win L x
  · intro h
    obtain ⟨x, rfl⟩ := exists_cell L h
    exact Finset.mem_map.mpr ⟨x, Finset.mem_univ _, emb_outWin L o0V x⟩
theorem set_o1 : (outWin L o1V).view.set = win (L 0) (L 1) := set_o0 L
theorem set_o2 : (outWin L o2V).view.set = win (L 0) (L 1) := set_o0 L

/-- A half row written whole from a buffer holding `out` at its cells holds `out`. -/
theorem write_o0 (out : S16x512.Idx → BitVec 32) (g : Buf (Elt F) (o0Loc d)) (w : S256.Idx → BitVec 32)
    (hw : ∀ x, w x = out (cell L x)) :
    ∀ j ∈ win (L 0) (L 1), (outWin L o0V).view.writes (Elt F) g [⟨Rect.whole S256, w⟩] j = out j := by
  intro j hj
  obtain ⟨x, rfl⟩ := exists_cell L hj
  rw [← View.write_univ_eq_writes_whole, ← hw]
  refine (congrArg _ (emb_outWin L o0V x).symm).trans ?_
  exact View.write_emb_of_mem (v := (outWin L o0V).view) g w (Finset.mem_univ x)
theorem write_o1 (out : S16x512.Idx → BitVec 32) (g : Buf (Elt F) (o1Loc d)) (w : S256.Idx → BitVec 32)
    (hw : ∀ x, w x = out (cell L x)) :
    ∀ j ∈ win (L 0) (L 1), (outWin L o1V).view.writes (Elt F) g [⟨Rect.whole S256, w⟩] j = out j := write_o0 (F := F) d L out g w hw
theorem write_o2 (out : S16x512.Idx → BitVec 32) (g : Buf (Elt F) (o2Loc d)) (w : S256.Idx → BitVec 32)
    (hw : ∀ x, w x = out (cell L x)) :
    ∀ j ∈ win (L 0) (L 1), (outWin L o2V).view.writes (Elt F) g [⟨Rect.whole S256, w⟩] j = out j := write_o0 (F := F) d L out g w hw

/-! ## The tail -/

/-- The three outputs' cells of tile `(c, s)`, holding `g0`, `g1` and `g2`. -/
abbrev outs (c : Fin 2) (s : Fin 16) (g0 : Buf (Elt F) (o0Loc d)) (g1 : Buf (Elt F) (o1Loc d)) (g2 : Buf (Elt F) (o2Loc d)) : sProp 𝕄 :=
  iprop((o0Loc d ↦[win c s]{fullShare} g0) ∗ (o1Loc d ↦[win c s]{fullShare} g1) ∗ o2Loc d ↦[win c s]{fullShare} g2)

set_option maxHeartbeats 4000000 in
theorem wp_tail (O : CellTallies nD τ sig (HIx 1)) (W : Waits sig (HIx 1)) (out0 out1 out2 : S16x512.Idx → BitVec 32)
    (g0 : Buf (Elt F) (o0Loc d)) (g1 : Buf (Elt F) (o1Loc d)) (g2 : Buf (Elt F) (o2Loc d)) (Q : PUnit → sProp 𝕄) :
    iprop(Transfers.MayWaits (V d (cV L) (jV L)) (default : HIx 1) O
        ∗ part d L s4V 16 (fun x => out0 (cell L x)) ∗ part d L s5V 16 (fun x => out1 (cell L x)) ∗ part d L s6V 16 (fun x => out2 (cell L x))
        ∗ outs d (L 0) (L 1) g0 g1 g2
        ∗ (semVal (cellOf d L cc0_scoped4.sem) 0 ∗ semVal (cellOf d L cc0_scoped5.sem) 0 ∗ semVal (cellOf d L cc0_scoped6.sem) 0)
        ∗ owes (V d (cV L) (jV L)) O W)
      ⊢ iprop((iprop((someBuf d L cc0_scratch4 ∗ someBuf d L cc0_scratch5 ∗ someBuf d L cc0_scratch6)
            ∗ outs d (L 0) (L 1) out0 out1 out2
            ∗ (semVal (cellOf d L cc0_scoped4.sem) 0 ∗ semVal (cellOf d L cc0_scoped5.sem) 0 ∗ semVal (cellOf d L cc0_scoped6.sem) 0)
            ∗ ∃ W', ⌜∀ p ∈ W', p ∈ W ∨ p.2 = none⌝ ∗ owes (V d (cV L) (jV L)) O W') -∗ Q ⟨⟩)
        -∗ wp frame (wpE (defs₀ (F := F)) 𝒱₀ (V d (cV L) (jV L)) none) Set.univ
          (tail L o0V o1V o2V s4V (Memref.isWhole_whole _) s5V (Memref.isWhole_whole _) s6V (Memref.isWhole_whole _)
            cc0_scoped4.sem cc0_scoped5.sem cc0_scoped6.sem) Q) := by
  unfold tail copyOut
  simp only [bind_assoc]
  unfold part
  iintro ⟨#Hmw, ⟨%f4, %h4, H4⟩, ⟨%f5, %h5, H5⟩, ⟨%f6, %h6, H6⟩, ⟨Ho0, Ho1, Ho2⟩, ⟨S4, S5, S6⟩, HO⟩ Hk
  ihave Ho0 := (Entails.of_eq (show (o0Loc d ↦[win (L 0) (L 1)]{fullShare} g0 : sProp 𝕄)
    = ((outWin L o0V).view.loc (V d (cV L) (jV L)) ↦[(outWin L o0V).view.set]{fullShare} g0) by rw [set_o0])) $$ Ho0
  ihave Ho1 := (Entails.of_eq (show (o1Loc d ↦[win (L 0) (L 1)]{fullShare} g1 : sProp 𝕄)
    = ((outWin L o1V).view.loc (V d (cV L) (jV L)) ↦[(outWin L o1V).view.set]{fullShare} g1) by rw [set_o1])) $$ Ho1
  ihave Ho2 := (Entails.of_eq (show (o2Loc d ↦[win (L 0) (L 1)]{fullShare} g2 : sProp 𝕄)
    = ((outWin L o2V).view.loc (V d (cV L) (jV L)) ↦[(outWin L o2V).view.set]{fullShare} g2) by rw [set_o2])) $$ Ho2
  sl_exec
  have full : ∀ x : S256.Idx, (x 0).val < 16 * 16 := fun x => (x 0).isLt
  sl_step
  iapply Hk
  isplitl [H4 H5 H6]
  · isplitl [H4]; · iexists f4; iexact H4
    isplitl [H5]; · iexists f5; iexact H5
    iexists f6; iexact H6
  isplitl [Ho0 Ho1 Ho2]
  · isplitl [Ho0]
    · rw [set_o0]
      iapply (Entails.of_eq (pointsTo_congr (write_o0 d L out0 g0 _ fun x => h4 x (full x)))); iexact Ho0
    isplitl [Ho1]
    · rw [set_o1]
      iapply (Entails.of_eq (pointsTo_congr (write_o1 d L out1 g1 _ fun x => h5 x (full x)))); iexact Ho1
    rw [set_o2]
    iapply (Entails.of_eq (pointsTo_congr (write_o2 d L out2 g2 _ fun x => h6 x (full x)))); iexact Ho2
  isplitl [S4 S5 S6]
  · isplitl [S4]; · iexact S4
    isplitl [S5]; · iexact S5
    iexact S6
  iexists _; isplitr
  swap; · iexact HO
  ipureintro; intro p hp
  simp only [Finset.mem_insert] at hp
  rcases hp with hp | hp | hp | hp
  · exact .inr (hp ▸ rfl)
  · exact .inr (hp ▸ rfl)
  · exact .inr (hp ▸ rfl)
  exact .inl hp

/-! ## The whole tile -/

theorem row_chk1 : k0_chk1 (rowV L) := by
  refine and_self_iff.mpr fun a x => ?_
  fin_cases a
  show (rowV L x).toNat < 17
  have h : (L 1).val < 16 := (L 1).isLt
  rw [rowV_apply, BitVec.toNat_ofNat]; omega

theorem next_lt (x : S16.Idx) : (nextV L x).toNat < 17 := by
  have h : (L 1).val < 16 := (L 1).isLt
  rw [nextV_apply, BitVec.toNat_ofNat]; omega

theorem next_chk2 : k0_chk2 (nextV L) := by
  intro a x; fin_cases a; exact next_lt L x

theorem next_chk3 : k0_chk3 (nextV L) := by
  intro a x; fin_cases a; exact next_lt L x

/-- The boundary a row starts at, in every lane. -/
theorem loadIdx_row (cu : Bnds.Idx → BitVec 32) (h) (x : S16.Idx) :
    loadIdx (F := F) (s := S17) (e := .i32) (t := S16) cu ![rowV L] h x = bnd cu (Fin.castSucc (rowOf L)) := by
  refine congrArg cu (funext fun a => Fin.ext ?_)
  fin_cases a
  show (rowV L x).toNat = (L 1).val
  have h : (L 1).val < 16 := (L 1).isLt
  rw [rowV_apply, BitVec.toNat_ofNat]; omega

/-- The boundary a row ends at, in every lane. -/
theorem loadIdx_next (cu : Bnds.Idx → BitVec 32) (h) (x : S16.Idx) :
    loadIdx (F := F) (s := S17) (e := .i32) (t := S16) cu ![nextV L] h x = bnd cu (Fin.succ (rowOf L)) := by
  refine congrArg cu (funext fun a => Fin.ext ?_)
  fin_cases a
  show (nextV L x).toNat = (L 1).val + 1
  have h : (L 1).val < 16 := (L 1).isLt
  rw [nextV_apply, BitVec.toNat_ofNat]; omega

/-- The four looked-up vectors and the two computed from them hold the row's words. -/
theorem rowWords (cu1 cu2 : Bnds.Idx → BitVec 32) (h1 h2 h3 h4) :
    RowWords L cu1 cu2 (loadIdx (F := F) (s := S17) (e := .i32) (t := S16) cu1 ![rowV L] h1)
      (loadIdx (F := F) (s := S17) (e := .i32) (t := S16) cu2 ![rowV L] h3)
      (keepV (loadIdx (F := F) (s := S17) (e := .i32) (t := S16) cu1 ![rowV L] h1)
        (loadIdx (F := F) (s := S17) (e := .i32) (t := S16) cu1 ![nextV L] h2)
        (loadIdx (F := F) (s := S17) (e := .i32) (t := S16) cu2 ![rowV L] h3)
        (loadIdx (F := F) (s := S17) (e := .i32) (t := S16) cu2 ![nextV L] h4))
      (lastV (loadIdx (F := F) (s := S17) (e := .i32) (t := S16) cu1 ![rowV L] h1)
        (loadIdx (F := F) (s := S17) (e := .i32) (t := S16) cu1 ![nextV L] h2)
        (loadIdx (F := F) (s := S17) (e := .i32) (t := S16) cu2 ![rowV L] h3)
        (loadIdx (F := F) (s := S17) (e := .i32) (t := S16) cu2 ![nextV L] h4)) where
  a_eq := loadIdx_row L cu1 h1
  b_eq := loadIdx_row L cu2 h3
  t_eq x := by rw [keepV_apply]; simp only [loadIdx_row, loadIdx_next]; rfl
  l_eq x := by rw [lastV_apply]; simp only [loadIdx_row, loadIdx_next]; rfl

variable (m : (ℓ : Loc nD τ sig) → Buf (Elt F) ℓ)

/-- Tile `(c, s)`'s read share of an input: one of thirty-two. -/
abbrev tq (c : Fin 2) (s : Fin 16) : PosShare TreeShare := Transfers.shareTok fullShare 32 (finProdFinEquiv (c, s))

/-- A tile's shares of the four inputs. -/
abbrev ins (c : Fin 2) (s : Fin 16) : sProp 𝕄 :=
  iprop((t1Loc d ↦{tq c s} m (t1Loc d)) ∗ (c1Loc d ↦{tq c s} m (c1Loc d)) ∗ (t2Loc d ↦{tq c s} m (t2Loc d)) ∗ c2Loc d ↦{tq c s} m (c2Loc d))

/-- The three packed arrays. -/
abbrev out0 : Buf (Elt F) (o0Loc d) := idsOut (m (t1Loc d)) (m (c1Loc d)) (m (t2Loc d)) (m (c2Loc d))
abbrev out1 : Buf (Elt F) (o1Loc d) := maskOut (m (c1Loc d)) (m (c2Loc d))
abbrev out2 : Buf (Elt F) (o2Loc d) := typeOut (m (c1Loc d)) (m (c2Loc d))

/-- What a tile takes: its shares of the inputs, its cells of the outputs. -/
abbrev goP (c : Fin 2) (s : Fin 16) : sProp 𝕄 := iprop(ins d m c s ∗ outs d c s (m (o0Loc d)) (m (o1Loc d)) (m (o2Loc d)))

/-- What it brings back: the same, its cells at the packed arrays' words. -/
abbrev tdP (c : Fin 2) (s : Fin 16) : sProp 𝕄 := iprop(ins d m c s ∗ outs d c s (out0 d m) (out1 d m) (out2 d m))

/-- A buffer held whole, as the body addresses it. -/
theorem hold {sp : Space} {s : Shape} {e : EltTy} (b : Memref sig .scVector sp s e) (q : PosShare TreeShare)
    (f : Buf (Elt F) (b.view.loc (V d (cV L) (jV L)))) :
    ((b.view.loc (V d (cV L) (jV L)) ↦{q} f) : sProp 𝕄) ⊢ (b.view.loc (V d (cV L) (jV L)) ↦{q} f) := .rfl

/-- A buffer filled by a whole copy of a buffer holds its contents. -/
theorem filled_eq {sp : Space} {s : Shape} {e : EltTy} (b : Memref sig .scVector sp s e)
    {f g : Buf (Elt F) (b.view.loc (V d (cV L) (jV L)))} (h : f = g) :
    ((b.view.loc (V d (cV L) (jV L)) ↦{fullShare} f) : sProp 𝕄) ⊢ (b.view.loc (V d (cV L) (jV L)) ↦{fullShare} g) := h ▸ .rfl

/-- A check that holds. -/
theorem wp_check {P : Prop} {dec : Decidable P} (h : P) (k : PLift P → TileProg F L PUnit) (Q : PUnit → sProp 𝕄) :
    wp frame (wpE (defs₀ (F := F)) 𝒱₀ (V d (cV L) (jV L)) none) Set.univ (Prog.lift (TpuEff.assume P dec) >>= k) Q
      = wp frame (wpE (defs₀ (F := F)) 𝒱₀ (V d (cV L) (jV L)) none) Set.univ (k ⟨h⟩) Q :=
  wp_assume_of _ _ _ _ h

/-- Nothing is asked of a buffer before the first step. -/
theorem part_zero (b : Memref sig .scVector .vmem S256 .i32) (out : S256.Idx → BitVec 32)
    (f : Buf (Elt F) (b.view.loc (V d (cV L) (jV L)))) :
    ((b.view.loc (V d (cV L) (jV L)) ↦{fullShare} f) : sProp 𝕄) ⊢ part d L b 0 out := by
  unfold part
  iintro H
  iexists f; isplitr
  · ipureintro; exact fun x h => absurd h (Nat.not_lt_zero _)
  · iexact H

set_option maxHeartbeats 4000000 in
/-- A tile's run. -/
theorem tile_body (hF : (K (F := F)).Facts) (O : CellTallies nD τ sig (HIx 1)) (W : Waits sig (HIx 1)) (hO : ∀ g, O g none = 0) :
    iprop(levAts (K (F := F)).L (K (F := F)).lev ∗ emp ∗ goP d m (L 0) (L 1)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pack_kernel L t1V (Memref.isWhole_whole _) c1V (Memref.isWhole_whole _) t2V (Memref.isWhole_whole _)
            c2V (Memref.isWhole_whole _) o0V (Memref.isWhole_whole _) o1V (Memref.isWhole_whole _) o2V (Memref.isWhole_whole _)
            s0V (Memref.isWhole_whole _) s1V (Memref.isWhole_whole _) s2V (Memref.isWhole_whole _) s3V (Memref.isWhole_whole _)
            s4V (Memref.isWhole_whole _) s5V (Memref.isWhole_whole _) s6V (Memref.isWhole_whole _)
            cc0_scoped0 cc0_scoped1 cc0_scoped2 cc0_scoped3 cc0_scoped4 cc0_scoped5 cc0_scoped6)
          fun _ => iprop(tdP d m (L 0) (L 1)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [kernel_eq]
  unfold body copyIn
  simp only [bind_assoc]
  rw [(K (F := F)).scopedBufs_V hF d (cV L) (jV L), SparseCore.Cfg.scopedSems0_V (Val := Elt F) d (cV L) (jV L), ownSems0_V, ownBufs_V]
  iintro ⟨#Hlv, -, ⟨⟨Ht1, Hc1, Ht2, Hc2⟩, Ho⟩,
    ⟨⟨%f0, H0⟩, ⟨%f1, H1⟩, ⟨%f2, H2⟩, ⟨%f3, H3⟩, ⟨%f4, H4⟩, ⟨%f5, H5⟩, ⟨%f6, H6⟩, Hbufs⟩,
    ⟨S0, S1, S2, S3, S4, S5, S6, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht1 := (hold d L t1V _ _) $$ Ht1
  ihave Hc1 := (hold d L c1V _ _) $$ Hc1
  ihave Ht2 := (hold d L t2V _ _) $$ Ht2
  ihave Hc2 := (hold d L c2V _ _) $$ Hc2
  ihave H0 := (hold d L s0V _ _) $$ H0
  ihave H1 := (hold d L s1V _ _) $$ H1
  ihave H2 := (hold d L s2V _ _) $$ H2
  ihave H3 := (hold d L s3V _ _) $$ H3
  sl_exec
  ihave H0 := (filled_eq d L s0V (f := View.write (Elt F) (s0V).view f0 (tile_body.sl.dma0 d m) Finset.univ) (g := m (c1Loc d)) (View.write_whole_univ cc0_scratch0 f0 _)) $$ H0
  ihave H1 := (filled_eq d L s1V (f := View.write (Elt F) (s1V).view f1 (tile_body.sl.dma0_1 d m) Finset.univ) (g := m (c2Loc d)) (View.write_whole_univ cc0_scratch1 f1 _)) $$ H1
  ihave H2 := (filled_eq d L s2V (f := View.write (Elt F) (s2V).view f2 (tile_body.sl.dma0_2 d m) Finset.univ) (g := m (t1Loc d)) (View.write_whole_univ cc0_scratch2 f2 _)) $$ H2
  ihave H3 := (filled_eq d L s3V (f := View.write (Elt F) (s3V).view f3 (tile_body.sl.dma0_3 d m) Finset.univ) (g := m (t2Loc d)) (View.write_whole_univ cc0_scratch3 f3 _)) $$ H3
  have e0 : ((s0V).access (.whole S17)).read (Elt F) (m (c1Loc d)) = m (c1Loc d) := Memref.read_access_whole _ _ _
  have e1 : ((s1V).access (.whole S17)).read (Elt F) (m (c2Loc d)) = m (c2Loc d) := Memref.read_access_whole _ _ _
  rw [wp_assume_of _ _ _ _ (row_chk1 L)]
  iapply (SparseCore.wp_vectorLoadIdx 𝒱₀ (V d (cV L) (jV L)) none Set.univ (base := s0V) (S := Finset.univ) (q := fullShare)
    (f := m (c1Loc d)) (Finset.subset_univ _)) $$ H0
  iintro H0
  rw [wp_check d L (next_chk2 L)]
  iapply (SparseCore.wp_vectorLoadIdx 𝒱₀ (V d (cV L) (jV L)) none Set.univ (base := s0V) (S := Finset.univ) (q := fullShare)
    (f := m (c1Loc d)) (Finset.subset_univ _)) $$ H0
  iintro H0
  iapply (SparseCore.wp_vectorLoadIdx 𝒱₀ (V d (cV L) (jV L)) none Set.univ (base := s1V) (S := Finset.univ) (q := fullShare)
    (f := m (c2Loc d)) (Finset.subset_univ _)) $$ H1
  iintro H1
  rw [wp_check d L (next_chk3 L)]
  iapply (SparseCore.wp_vectorLoadIdx 𝒱₀ (V d (cV L) (jV L)) none Set.univ (base := s1V) (S := Finset.univ) (q := fullShare)
    (f := m (c2Loc d)) (Finset.subset_univ _)) $$ H1
  iintro H1
  rw [e0, e1]
  iapply (wp_steps d L (m (t1Loc d)) (m (c1Loc d)) (m (t2Loc d)) (m (c2Loc d)) (rowWords L (m (c1Loc d)) (m (c2Loc d)) _ _ _ _) _ _ 16 le_rfl)
    $$ [H2 H3 H4 H5 H6]
  · unfold state
    isplitl [H2]; · iexact H2
    isplitl [H3]; · iexact H3
    isplitl [H4]; · iapply (part_zero d L s4V _ f4); iexact H4
    isplitl [H5]; · iapply (part_zero d L s5V _ f5); iexact H5
    iapply (part_zero d L s6V _ f6); iexact H6
  unfold state
  iintro ⟨H2, H3, H4, H5, H6⟩
  iapply (wp_tail d L O _ (out0 d m) (out1 d m) (out2 d m)) $$ [Hmw H4 H5 H6 Ho S4 S5 S6 HO]
  · isplitl [Hmw]; · iexact Hmw
    isplitl [H4]; · iexact H4
    isplitl [H5]; · iexact H5
    isplitl [H6]; · iexact H6
    isplitl [Ho]; · iexact Ho
    isplitl [S4 S5 S6]
    · isplitl [S4]; · iexact S4
      isplitl [S5]; · iexact S5
      iexact S6
    iexact HO
  iintro ⟨⟨H4, H5, H6⟩, Ho, ⟨S4, S5, S6⟩, %W', %hW', HO⟩
  isplitl [Ht1 Hc1 Ht2 Hc2 Ho]
  · isplitr [Ho]
    · isplitl [Ht1]; · iexact Ht1
      isplitl [Hc1]; · iexact Hc1
      isplitl [Ht2]; · iexact Ht2
      iexact Hc2
    iexact Ho
  isplitl [H0 H1 H2 H3 H4 H5 H6 Hbufs]
  · isplitl [H0]; · iexists _; iexact H0
    isplitl [H1]; · iexists _; iexact H1
    isplitl [H2]; · iexists _; iexact H2
    isplitl [H3]; · iexists _; iexact H3
    isplitl [H4]; · iexact H4
    isplitl [H5]; · iexact H5
    isplitl [H6]; · iexact H6
    iexact Hbufs
  isplitl [S0 S1 S2 S3 S4 S5 S6 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Hsems
  iexists W'; isplitr
  swap; · iexact HO
  ipureintro; intro p hp
  rcases hW' p hp with hp | hp
  · simp only [Finset.mem_insert] at hp
    rcases hp with hp | hp | hp | hp | hp
    · exact .inr (hp ▸ rfl)
    · exact .inr (hp ▸ rfl)
    · exact .inr (hp ▸ rfl)
    · exact .inr (hp ▸ rfl)
    exact .inl hp
  exact .inr hp

end Tile

end Cert.KernelIdeal.Pack

end
-- ==== Proof.KernelIdeal.Launch.lean ====
module

public import proofs.«01_k».proof.Proof.KernelIdeal.Tile

@[expose] public section

/-! # The whole program's run

The inputs are dealt as thirty-two read shares and the outputs as thirty-two half rows, one of each to a tile; the
tiles bring the half rows back packed, and they join to the packed arrays. -/

noncomputable section

namespace Cert.KernelIdeal.Pack

open Cert.KernelIdeal Cert.KernelIdeal.Gen Cert.Pack

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Dealing an array out to the tiles -/

/-- A tile: its SparseCore and its vector subcore. -/
abbrev Tile : Type := Fin 2 × Fin 16

/-- What is left of an input when every tile has its share. -/
abbrev spare : PosShare TreeShare := Transfers.shareDrop fullShare 32

/-- A whole array is a spare share and a share for every tile. -/
theorem shares (ℓ : Loc nD τ sig) (f : Buf (Elt F) ℓ) :
    (ℓ ↦{fullShare} f : sProp 𝕄) ⊣⊢ iprop((ℓ ↦{spare} f) ∗ bigSep Finset.univ fun p : Tile => ℓ ↦{tq p.1 p.2} f) := by
  have h := Transfers.pointsTo_toks (nD := nD) (τ := τ) (sig := sig) (Ix := HIx 1) (Val := Elt F) (Name := ℕ) (U := UU)
    (Lvl := ℕ) (ℓ := ℓ) (S := Finset.univ) (f := f) fullShare 32
  rw [bigSep_univ_equiv (finProdFinEquiv (m := 2) (n := 16))] at h
  exact h

theorem win_disjoint : ∀ p ∈ (Finset.univ : Finset Tile), ∀ p' ∈ (Finset.univ : Finset Tile), p ≠ p' →
    Disjoint (win p.1 p.2) (win p'.1 p'.2) := by
  intro p _ p' _ h
  refine Finset.disjoint_left.mpr fun j hj hj' => h ?_
  obtain ⟨-, h1, h2⟩ := Finset.mem_filter.mp hj
  obtain ⟨-, h1', h2'⟩ := Finset.mem_filter.mp hj'
  exact Prod.ext (Fin.ext (h2.symm.trans h2')) (Fin.ext (h1.symm.trans h1'))

theorem win_cover : (Finset.univ : Finset Tile).biUnion (fun p => win p.1 p.2) = Finset.univ := by
  refine Finset.eq_univ_of_forall fun j => ?_
  have h0 : (j 0).val < 16 := (j 0).isLt
  have h1 : (j 1).val < 512 := (j 1).isLt
  exact Finset.mem_biUnion.mpr ⟨(⟨(j 1).val / 256, by omega⟩, ⟨(j 0).val, h0⟩), Finset.mem_univ _,
    Finset.mem_filter.mpr ⟨Finset.mem_univ _, rfl, rfl⟩⟩

/-- A whole array cut into a window for every tile. -/
theorem windows (ℓ : Loc nD τ sig) (w : Tile → Finset (Idx ℓ))
    (hd : ∀ p ∈ (Finset.univ : Finset Tile), ∀ p' ∈ (Finset.univ : Finset Tile), p ≠ p' → Disjoint (w p) (w p'))
    (hc : (Finset.univ : Finset Tile).biUnion w = Finset.univ) (f : Buf (Elt F) ℓ) :
    (ℓ ↦{fullShare} f : sProp 𝕄) = bigSep Finset.univ fun p => ℓ ↦[w p]{fullShare} f := by
  rw [← pointsTo_biUnion Finset.univ (ℓ := ℓ) w hd, hc]

section Run

variable [FloatOps F] (m : (ℓ : Loc nD τ sig) → Buf (Elt F) ℓ) (ρ : Dev nD → PrngReg) (d : Dev nD)

/-- The inputs' spare shares. -/
abbrev kept : sProp 𝕄 :=
  iprop((t1Loc d ↦{spare} m (t1Loc d)) ∗ (c1Loc d ↦{spare} m (c1Loc d)) ∗ (t2Loc d ↦{spare} m (t2Loc d)) ∗ c2Loc d ↦{spare} m (c2Loc d))

/-- The inputs, whole. -/
abbrev inAll : sProp 𝕄 :=
  iprop((t1Loc d ↦{fullShare} m (t1Loc d)) ∗ (c1Loc d ↦{fullShare} m (c1Loc d)) ∗ (t2Loc d ↦{fullShare} m (t2Loc d)) ∗ c2Loc d ↦{fullShare} m (c2Loc d))

/-- The outputs, whole. -/
abbrev outAll (g0 : Buf (Elt F) (o0Loc d)) (g1 : Buf (Elt F) (o1Loc d)) (g2 : Buf (Elt F) (o2Loc d)) : sProp 𝕄 :=
  iprop((o0Loc d ↦{fullShare} g0) ∗ (o1Loc d ↦{fullShare} g1) ∗ o2Loc d ↦{fullShare} g2)

theorem deal_ins : inAll m d ⊣⊢ iprop(kept m d ∗ bigSep Finset.univ fun p : Tile => ins d m p.1 p.2) := by
  rw [bigSep_sep', bigSep_sep', bigSep_sep']
  have h1 := shares (t1Loc d) (m (t1Loc d))
  have h2 := shares (c1Loc d) (m (c1Loc d))
  have h3 := shares (t2Loc d) (m (t2Loc d))
  have h4 := shares (c2Loc d) (m (c2Loc d))
  constructor
  · iintro ⟨H1, H2, H3, H4⟩
    ihave H1 := h1.1 $$ H1
    ihave H2 := h2.1 $$ H2
    ihave H3 := h3.1 $$ H3
    ihave H4 := h4.1 $$ H4
    icases H1 with ⟨K1, H1⟩
    icases H2 with ⟨K2, H2⟩
    icases H3 with ⟨K3, H3⟩
    icases H4 with ⟨K4, H4⟩
    isplitl [K1 K2 K3 K4]
    · isplitl [K1]; · iexact K1
      isplitl [K2]; · iexact K2
      isplitl [K3]; · iexact K3
      iexact K4
    · isplitl [H1]; · iexact H1
      isplitl [H2]; · iexact H2
      isplitl [H3]; · iexact H3
      iexact H4
  · iintro ⟨⟨K1, K2, K3, K4⟩, H1, H2, H3, H4⟩
    isplitl [K1 H1]; · iapply h1.2; isplitl [K1]; · iexact K1
                       iexact H1
    isplitl [K2 H2]; · iapply h2.2; isplitl [K2]; · iexact K2
                       iexact H2
    isplitl [K3 H3]; · iapply h3.2; isplitl [K3]; · iexact K3
                       iexact H3
    iapply h4.2; isplitl [K4]; · iexact K4
    iexact H4

theorem deal_outs (g0 : Buf (Elt F) (o0Loc d)) (g1 : Buf (Elt F) (o1Loc d)) (g2 : Buf (Elt F) (o2Loc d)) :
    outAll d g0 g1 g2 = bigSep Finset.univ fun p : Tile => outs d p.1 p.2 g0 g1 g2 := by
  rw [bigSep_sep', bigSep_sep']
  unfold outAll
  rw [windows (o0Loc d) (fun p => win p.1 p.2) win_disjoint win_cover g0,
    windows (o1Loc d) (fun p => win p.1 p.2) win_disjoint win_cover g1,
    windows (o2Loc d) (fun p => win p.1 p.2) win_disjoint win_cover g2]

/-! ## What the launch's signals carry -/

theorem nCore_zero : (K (F := F)).nCore 0 = 2 := rfl
theorem nSub_zero : (K (F := F)).nSub 0 = 16 := rfl

/-- A tile's start carries what it takes and its end what it brings back; a SparseCore's, its sixteen tiles'. -/
def P : (K (F := F)).Pay (nD := nD) (Val := Elt F) (Name := ℕ) (U := UU) where
  st := fun q d c => match q with | 0 => bigSep Finset.univ fun s : Fin 16 => goP d m (Fin.cast nCore_zero c) s
  dn := fun q d c => match q with | 0 => bigSep Finset.univ fun s : Fin 16 => tdP d m (Fin.cast nCore_zero c) s
  go := fun q d c i => match q with | 0 => goP d m (Fin.cast nCore_zero c) (Fin.cast nSub_zero i)
  td := fun q d c i => match q with | 0 => tdP d m (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goP d m (Fin.cast nCore_zero c) s))
  dn q d c := match q with
    | 0 => (inferInstance : BI.Storable (upEmb : UEmb _ 𝕄) (bigSep Finset.univ fun s : Fin 16 => tdP d m (Fin.cast nCore_zero c) s))
  go q d c i := match q with
    | 0 => (inferInstance : BI.Storable (upEmb : UEmb _ 𝕄) (goP d m (Fin.cast nCore_zero c) (Fin.cast nSub_zero i)))
  td q d c i := match q with
    | 0 => (inferInstance : BI.Storable (upEmb : UEmb _ 𝕄) (tdP d m (Fin.cast nCore_zero c) (Fin.cast nSub_zero i)))

/-! ## A tile's task -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The coordinates of tile `(c, s)`. -/
abbrev coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pack_kernel (coordsV c s)
          t1V (Memref.isWhole_whole _) c1V (Memref.isWhole_whole _) t2V (Memref.isWhole_whole _)
          c2V (Memref.isWhole_whole _) o0V (Memref.isWhole_whole _) o1V (Memref.isWhole_whole _) o2V (Memref.isWhole_whole _)
          s0V (Memref.isWhole_whole _) s1V (Memref.isWhole_whole _) s2V (Memref.isWhole_whole _) s3V (Memref.isWhole_whole _)
          s4V (Memref.isWhole_whole _) s5V (Memref.isWhole_whole _) s6V (Memref.isWhole_whole _)
          cc0_scoped0 cc0_scoped1 cc0_scoped2 cc0_scoped3 cc0_scoped4 cc0_scoped5 cc0_scoped6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m facts O W hO).trans (wp_mono frame _ _ fun _ => obl_post)

theorem vecSplit : (K (F := F)).VecSplit' (P m) 0 := by
  intro d c
  show (bigSep Finset.univ fun s : Fin 16 => goP d m (Fin.cast nCore_zero c) s) ⊢ |={Set.univ}=> iprop(
      (bigSep Finset.univ fun s : Fin 16 => goP d m (Fin.cast nCore_zero c) s)
      ∗ ((bigSep Finset.univ fun s : Fin 16 => tdP d m (Fin.cast nCore_zero c) s)
          -∗ bigSep Finset.univ fun s : Fin 16 => tdP d m (Fin.cast nCore_zero c) s))
  iintro H; imodintro
  isplitl [H]; · iexact H
  iintro H; iexact H

/-! ## The launch's ghost state -/

def u₀ : UU := (initOf (K (F := F)).hsCells (K (F := F)).hsToks, 1)

omit [FloatOps F] in
/-- Nothing, many times. -/
theorem nothings {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothings]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothings]
  iempintro

/-! ## The program's main thread -/

omit [FloatOps F] in
theorem unscopedBufs_eq (W : (b : Ref sig .tc) → Buf (Elt F) ((d.tc : Thread nD τ).loc b)) :
    (unscopedBufs d W : sProp 𝕄) = iprop((t1Loc d ↦{fullShare} W main_arg0) ∗ (c1Loc d ↦{fullShare} W main_arg1)
      ∗ (t2Loc d ↦{fullShare} W main_arg2) ∗ (c2Loc d ↦{fullShare} W main_arg3) ∗ (lbLoc d ↦{fullShare} W main_arg4)
      ∗ (o0Loc d ↦{fullShare} W main_v0_0) ∗ (o1Loc d ↦{fullShare} W main_v0_1) ∗ o2Loc d ↦{fullShare} W main_v0_2) := by
  unfold unscopedBufs
  rw [show (Finset.univ.filter fun b : Ref sig .tc => ¬ b.isScoped)
      = {main_arg0, main_arg1, main_arg2, main_arg3, main_arg4, main_v0_0, main_v0_1, main_v0_2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem st0_eq : (bigSep Finset.univ fun c : Fin ((K (F := F)).nCore 0) => (P m).st 0 d c)
    = iprop((bigSep Finset.univ fun p : Tile => ins d m p.1 p.2) ∗ outAll d (m (o0Loc d)) (m (o1Loc d)) (m (o2Loc d))) := by
  rw [deal_outs, ← bigSep_sep', bigSep_univ_prod]; rfl

theorem dn0_eq : (bigSep Finset.univ fun c : Fin ((K (F := F)).nCore 0) => (P m).dn 0 d c)
    = iprop((bigSep Finset.univ fun p : Tile => ins d m p.1 p.2) ∗ outAll d (out0 d m) (out1 d m) (out2 d m)) := by
  rw [deal_outs, ← bigSep_sep', bigSep_univ_prod]; rfl

/-- What the program ends with: its arguments as they were, its results packed. -/
abbrev FIN : sProp 𝕄 :=
  iprop(inAll m d ∗ (lbLoc d ↦{fullShare} m (lbLoc d)) ∗ outAll d (out0 d m) (out1 d m) (out2 d m))

theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H1, H2, H3, H4, Hl, Ho⟩, Hts, -⟩, -⟩
  ihave Hin := (deal_ins m d).1 $$ [H1 H2 H3 H4]
  · isplitl [H1]; · iexact H1
    isplitl [H2]; · iexact H2
    isplitl [H3]; · iexact H3
    iexact H4
  icases Hin with ⟨Hk, Hin⟩
  iapply ((K (F := F)).wp_run (D (F := F)) 𝒱 (EH := EH) (P := P m) κ d 0) $$ [Hst Hk Hin Hl Ho Hb Hts]
  isplitr; · iexact Hctx
  isplitl [Hst]; · iexact Hst
  isplitl [Hin Ho]
  · rw [st0_eq]
    isplitl [Hin]; · iexact Hin
    iexact Ho
  iintro ⟨Hst, Hdn⟩
  ihave Hdn := (Entails.of_eq (dn0_eq m d)) $$ Hdn
  icases Hdn with ⟨Hin, Ho⟩
  ihave Hin := (deal_ins m d).2 $$ [Hk Hin]
  · isplitl [Hk]; · iexact Hk
    iexact Hin
  imodintro
  isplitl [Hst]; · iexact Hst
  isplitr [Hb Hts]
  · isplitl [Hin]; · iexact Hin
    isplitl [Hl]; · iexact Hl
    iexact Ho
  isplitl [Hb] <;> iassumption

/-! ## The end -/

/-- The arguments are as at the start and the results are the packed arrays. -/
def Ends (m m' : (ℓ : Loc nD τ sig) → Buf (Elt F) ℓ) (d : Dev nD) : Prop :=
  (m' (t1Loc d) = m (t1Loc d) ∧ m' (c1Loc d) = m (c1Loc d) ∧ m' (t2Loc d) = m (t2Loc d) ∧ m' (c2Loc d) = m (c2Loc d)
    ∧ m' (lbLoc d) = m (lbLoc d))
  ∧ m' (o0Loc d) = out0 d m ∧ m' (o1Loc d) = out1 d m ∧ m' (o2Loc d) = out2 d m

omit [FloatOps F] in
/-- An array held whole is in memory as it is held. -/
theorem read_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (s' : Phys nD τ sig (Elt F)) : iprop(FIN m d ∗ SI s') ⊢ (⌜Ends m s'.mem.mem d⌝ : sProp 𝕄) := by
  iintro ⟨⟨⟨H1, H2, H3, H4⟩, Hl, O0, O1, O2⟩, HSI⟩
  ihave H := (read_whole s' _ _) $$ [HSI H1]
  · isplitl [HSI] <;> iassumption
  icases H with ⟨%h1, HSI⟩
  ihave H := (read_whole s' _ _) $$ [HSI H2]
  · isplitl [HSI] <;> iassumption
  icases H with ⟨%h2, HSI⟩
  ihave H := (read_whole s' _ _) $$ [HSI H3]
  · isplitl [HSI] <;> iassumption
  icases H with ⟨%h3, HSI⟩
  ihave H := (read_whole s' _ _) $$ [HSI H4]
  · isplitl [HSI] <;> iassumption
  icases H with ⟨%h4, HSI⟩
  ihave H := (read_whole s' _ _) $$ [HSI Hl]
  · isplitl [HSI] <;> iassumption
  icases H with ⟨%h5, HSI⟩
  ihave H := (read_whole s' _ _) $$ [HSI O0]
  · isplitl [HSI] <;> iassumption
  icases H with ⟨%h6, HSI⟩
  ihave H := (read_whole s' _ _) $$ [HSI O1]
  · isplitl [HSI] <;> iassumption
  icases H with ⟨%h7, HSI⟩
  ihave H := (read_whole s' _ _) $$ [HSI O2]
  · isplitl [HSI] <;> iassumption
  icases H with ⟨%h8, -⟩
  ipureintro; exact ⟨⟨h1, h2, h3, h4, h5⟩, h6, h7, h8⟩

/-- The program runs; its arguments end as they were, its results packed, and every semaphore at zero. -/
theorem run_main [∀ e, Nonempty (Elt F e)] :
    θ_run (Cert.KernelIdeal.defs (F := F)) (Cert.KernelIdeal.threads (F := F)) ⟨m, fun _ => 0, ρ⟩
      fun r => (∀ d : Dev nD, Ends m r.2.mem d) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (fun κ d => hmain m ρ d κ)
    (fun d s' => Ends m s'.mem.mem d) (fun d s' => hfin m d s') _ (fun _ h hz => ⟨h, hz⟩)

end Run

end Cert.KernelIdeal.Pack

end
-- ==== Proof.ReferenceIdeal.Value.lean ====
module

public import proofs.«01_k».proof.Proof.Words
public import proofs.«01_k».proof.Proof.Gen.ReferenceIdeal.Run
public import Idealize.ShloMosaic.Lib.ReduceAll
public import Idealize.ShloMosaic.Lib.ValueIdxCore

@[expose] public section

/-! # The reference's results, word by word

The reference works on whole arrays. Here each of its results is read at one position, and is the word the packed
arrays hold there. -/

noncomputable section

namespace Cert.ReferenceIdeal.Pack

open Cert.ReferenceIdeal Cert.ReferenceIdeal.Gen Cert.ReferenceIdeal.Value Cert.Pack
open Idealize.ShloMosaic Idealize.ShloMosaic.TcCoe Idealize.SL.Sem

/-! ## A clipped word is a token's index -/

theorem clipW_toInt (x : BitVec 32) : (clipW x).toInt = (clipW x).toNat := by
  have h := clipW_lt x
  rw [BitVec.toInt_eq_toNat_cond]; split <;> omega

theorem clipW_not_neg (x : BitVec 32) : IntOp.cmpi .slt (clipW x) 0#32 = 0#1 := by
  have h := clipW_toInt x
  have h' : (clipW x).slt 0#32 = false := by
    rw [BitVec.slt_eq_decide, decide_eq_false_iff_not, h, BitVec.toInt_zero]; omega
  show BitVec.ofBool ((clipW x).slt 0#32) = 0#1
  rw [h']; rfl

theorem clipW_ge (x : BitVec 32) : IntOp.cmpi .sge (clipW x) 0#32 = 1#1 := by
  rw [IntOp.cmpi_sge, clipW_toInt, BitVec.toInt_zero]; omega

theorem clipW_le (x : BitVec 32) : IntOp.cmpi .sle (clipW x) 4095#32 = 1#1 := by
  have h := clipW_lt x
  rw [IntOp.cmpi_sle, clipW_toInt, show (4095#32).toInt = 4095 by decide]; omega

/-! ## Taking tokens -/

/-- The tokens at an array of indices: an index below zero counts from the end, and one outside the array gives the
    least word. -/
def taken (tok : IVec S4096 32) (idx : IVec S16x512 32) : IVec S16x512 32 :=
  let w : IVec S16x512x1 32 := broadcastInDim S16x512x1 ![0, 1] bcast_S16x512_S16x512x1_0_1
    (select (cmpi .slt idx (broadcastInDim S16x512 ![] bcast_S_S16x512 (constantI S_ 32 0#32)))
      (addi idx (broadcastInDim S16x512 ![] bcast_S_S16x512 (constantI S_ 32 4096#32))) idx)
  select (Host.reduce IntOp.andi
      (andi (cmpi .sge w (broadcastInDim S16x512x1 ![] bcast_S_S16x512x1 (constantI S_ 32 0#32)))
        (cmpi .sle w (broadcastInDim S16x512x1 ![0, 1, 2] bcast_S1x1x1_S16x512x1_0_1_2
          (broadcastInDim S1x1x1 ![2] bcast_S1_S1x1x1_2 (constantI S1 32 4095#32)))))
      (constantI S_ 1 1#1) reducesTo_S16x512x1_S16x512_d2 h_S_)
    (Host.gather gather_S4096_S16x512x1_S16x512_n_0_n_n_0_2_1 tok w)
    (broadcastInDim S16x512 ![] bcast_S_S16x512 (constantI S_ 32 2147483648#32))

/-- Clipped indices all lie in the array, so the tokens there are taken. -/
theorem taken_clip (tok : IVec S4096 32) (y : IVec S16x512 32) (j : S16x512.Idx) :
    taken tok (fun k => clipW (y k)) j = tokAt tok (y j) := by
  have hw : (broadcastInDim S16x512x1 ![0, 1] bcast_S16x512_S16x512x1_0_1
      (select (cmpi .slt (fun k => clipW (y k)) (broadcastInDim S16x512 ![] bcast_S_S16x512 (constantI S_ 32 0#32)))
        (addi (fun k => clipW (y k)) (broadcastInDim S16x512 ![] bcast_S_S16x512 (constantI S_ 32 4096#32))) (fun k => clipW (y k))))
      = broadcastInDim S16x512x1 ![0, 1] bcast_S16x512_S16x512x1_0_1 (fun k => clipW (y k)) := by
    congr 1; funext k
    show Scalar.select (IntOp.cmpi .slt (clipW (y k)) 0#32) _ _ = _
    rw [clipW_not_neg]; rfl
  unfold taken
  simp only [hw]
  show Scalar.select (Host.reduce IntOp.andi _ _ _ _ j) (Host.gather _ _ _ j) _ = _
  rw [Host.reduce_andi_one _ _ _ _ j rfl (fun i => by
    show IntOp.andi (IntOp.cmpi .sge (clipW _) 0#32) (IntOp.cmpi .sle (clipW _) 4095#32) = 1#1
    rw [clipW_ge, clipW_le]; rfl)]
  show Host.gather _ _ _ j = _
  refine (ValueIdx.gather_take_apply (by decide) gather_S4096_S16x512x1_S16x512_n_0_n_n_0_2_1_wf tok _ j).trans ?_
  refine congrArg tok (funext fun a => Fin.ext ?_)
  match a with
  | ⟨0, _⟩ =>
    show min (clipW (y _)).toInt.toNat (4096 - 1) = (clipW (y j)).toNat
    have e : ∀ k : S16x512.Idx, k = j → min (clipW (y k)).toInt.toNat (4096 - 1) = (clipW (y j)).toNat := by
      rintro k rfl
      have := clipW_lt (y k)
      rw [clipW_toInt, Int.toNat_natCast]; omega
    refine e _ (funext fun b => Fin.ext ?_)
    match b with
    | ⟨0, _⟩ => rfl
    | ⟨1, _⟩ => rfl

/-! ## The results -/

section Results

variable {F : FTy → Type} [FloatOps F] (m : (ℓ : Loc nD τ sig) → Buf (Elt F) ℓ) (c : Dev nD)

abbrev tok1 : Toks.Idx → BitVec 32 := m ((c.tc : Thread nD τ).loc main_arg0)
abbrev cu1 : Bnds.Idx → BitVec 32 := m ((c.tc : Thread nD τ).loc main_arg1)
abbrev tok2 : Toks.Idx → BitVec 32 := m ((c.tc : Thread nD τ).loc main_arg2)
abbrev cu2 : Bnds.Idx → BitVec 32 := m ((c.tc : Thread nD τ).loc main_arg3)

/-- A boundary array's first sixteen entries, and its last sixteen. -/
theorem slice_lo (cu : Bnds.Idx → BitVec 32) (x : S16.Idx) :
    extractStridedSlice S16 ![0] cu slices_S17_S16_0 x = bnd cu (Fin.castSucc (x 0)) := by
  refine congrArg cu (funext fun a => Fin.ext ?_)
  match a with
  | ⟨0, _⟩ => exact Nat.zero_add _

theorem slice_hi (cu : Bnds.Idx → BitVec 32) (x : S16.Idx) :
    extractStridedSlice S16 ![1] cu slices_S17_S16_1 x = bnd cu (Fin.succ (x 0)) := by
  refine congrArg cu (funext fun a => Fin.ext ?_)
  match a with
  | ⟨0, _⟩ => exact Nat.add_comm _ _

/-- The kept lengths of the first sequences, as the reference has them. -/
def keepR (a b : Bnds.Idx → BitVec 32) : IVec S16 32 :=
  minsi (subi (extractStridedSlice S16 ![1] a slices_S17_S16_1) (extractStridedSlice S16 ![0] a slices_S17_S16_0))
    (subi (broadcastInDim S16 ![] bcast_S_S16 (constantI S_ 32 509#32))
      (minsi (subi (extractStridedSlice S16 ![1] b slices_S17_S16_1) (extractStridedSlice S16 ![0] b slices_S17_S16_0))
        (broadcastInDim S16 ![] bcast_S_S16 (constantI S_ 32 254#32))))

/-- The kept lengths of the second sequences, as the reference has them. -/
def restR (a b : Bnds.Idx → BitVec 32) : IVec S16 32 :=
  minsi (subi (extractStridedSlice S16 ![1] b slices_S17_S16_1) (extractStridedSlice S16 ![0] b slices_S17_S16_0))
    (subi (broadcastInDim S16 ![] bcast_S_S16 (constantI S_ 32 509#32)) (keepR a b))

/-- A word for every row, over the row's positions. -/
def perRow (v : IVec S16 32) : IVec S16x512 32 :=
  broadcastInDim S16x512 ![0, 1] bcast_S16x1_S16x512_0_1 (broadcastInDim S16x1 ![0] bcast_S16_S16x1_0 v)

/-- Every word's position in its row. -/
def posR : IVec S16x512 32 :=
  broadcastInDim S16x512 ![0, 1] bcast_S1x512_S16x512_0_1 (broadcastInDim S1x512 ![1] bcast_S512_S1x512_1 (iotaInDim S512 32 0))

/-- One word at every position. -/
def everyW (w : BitVec 32) : IVec S16x512 32 := broadcastInDim S16x512 ![] bcast_S_S16x512 (constantI S_ 32 w)

/-- Where the first sequences' tokens lie. -/
def at1 (a : Bnds.Idx → BitVec 32) : IVec S16x512 32 :=
  subi (addi (perRow (extractStridedSlice S16 ![0] a slices_S17_S16_0)) posR) (everyW 1#32)

/-- Where the second sequences' tokens lie. -/
def at2 (a b : Bnds.Idx → BitVec 32) : IVec S16x512 32 :=
  subi (subi (addi (perRow (extractStridedSlice S16 ![0] b slices_S17_S16_0)) posR) (perRow (keepR a b))) (everyW 2#32)

/-- The index of row `j 0`. -/
abbrev rowIx (j : S16x512.Idx) : S16.Idx := Shape.ofLane (d := ![16]) (j 0)

theorem perRow_at (v : IVec S16 32) (j : S16x512.Idx) : perRow v j = v (rowIx j) := by
  refine congrArg v (funext fun a => Fin.ext ?_)
  match a with
  | ⟨0, _⟩ => rfl

theorem posR_at (j : S16x512.Idx) : posR j = BitVec.ofNat 32 (j 1).val := rfl

theorem keepR_at (a b : Bnds.Idx → BitVec 32) (j : S16x512.Idx) : keepR a b (rowIx j) = keep a b (j 0) := by
  show IntOp.minsi (extractStridedSlice S16 ![1] a slices_S17_S16_1 (rowIx j) - extractStridedSlice S16 ![0] a slices_S17_S16_0 (rowIx j))
    (509#32 - IntOp.minsi (extractStridedSlice S16 ![1] b slices_S17_S16_1 (rowIx j) - extractStridedSlice S16 ![0] b slices_S17_S16_0 (rowIx j)) 254#32) = _
  rw [slice_lo, slice_hi, slice_lo, slice_hi]; rfl

theorem last_at (a b : Bnds.Idx → BitVec 32) (j : S16x512.Idx) :
    keepR a b (rowIx j) + restR a b (rowIx j) + 2#32 = last a b (j 0) := by
  have h : restR a b (rowIx j) = IntOp.minsi (bnd b (Fin.succ (j 0)) - bnd b (Fin.castSucc (j 0))) (509#32 - keep a b (j 0)) := by
    show IntOp.minsi (extractStridedSlice S16 ![1] b slices_S17_S16_1 (rowIx j) - extractStridedSlice S16 ![0] b slices_S17_S16_0 (rowIx j))
      (509#32 - keepR a b (rowIx j)) = _
    rw [slice_lo, slice_hi, keepR_at]; rfl
  rw [h, keepR_at]; rfl

theorem before_last (t u : BitVec 32) : t + 1#32 + u = t + u + 2#32 - 1#32 := by
  apply BitVec.eq_of_toNat_eq
  simp only [BitVec.toNat_add, BitVec.toNat_sub, BitVec.toNat_ofNat, Nat.reducePow, Nat.reduceMod]
  omega

/-- A column of words, over the row's positions. -/
def perCol (v : IVec S16x1 32) : IVec S16x512 32 := broadcastInDim S16x512 ![0, 1] bcast_S16x1_S16x512_0_1 v

/-- One word for each row, as a column. -/
def colR (v : IVec S16 32) : IVec S16x1 32 := broadcastInDim S16x1 ![0] bcast_S16_S16x1_0 v

/-- One word, as a column. -/
def colW (w : BitVec 32) : IVec S16x1 32 := broadcastInDim S16x1 ![] bcast_S_S16x1 (constantI S_ 32 w)

/-- The index clipped into the token arrays. -/
def clipR (y : IVec S16x512 32) : IVec S16x512 32 := minsi (everyW 4095#32) (maxsi (everyW 0#32) y)

/-- The positions, as one row, and a word against them. -/
def posRow : IVec S1x512 32 := broadcastInDim S1x512 ![1] bcast_S512_S1x512_1 (iotaInDim S512 32 0)
def rowW (w : BitVec 32) : IVec S1x512 32 := broadcastInDim S1x512 ![] bcast_S_S1x512 (constantI S_ 32 w)
def perPos (v : IVec S1x512 1) : IVec S16x512 1 := broadcastInDim S16x512 ![0, 1] bcast_S1x512_S16x512_0_1 v

/-- The identifiers from the kept lengths `t` and `u` and the tokens `g1` and `g2` taken, array by array. -/
def idsR (t u : IVec S16 32) (g1 g2 : IVec S16x512 32) : IVec S16x512 32 :=
  select (perPos (cmpi .eq posRow (rowW 0#32))) (everyW 101#32)
    (select (andi (perPos (cmpi .sge posRow (rowW 1#32))) (cmpi .sle posR (perRow t))) g1
      (select (cmpi .eq posR (perCol (addi (colR t) (colW 1#32)))) (everyW 102#32)
        (select (andi (cmpi .sge posR (perCol (addi (colR t) (colW 2#32))))
            (cmpi .sle posR (perCol (addi (addi (colR t) (colW 1#32)) (colR u))))) g2
          (select (cmpi .eq posR (perCol (addi (addi (colR t) (colR u)) (colW 2#32)))) (everyW 102#32) (everyW 0#32)))))

set_option maxHeartbeats 2000000 in
theorem ids_arrays : res_out0 m c = idsR (keepR (cu1 m c) (cu2 m c)) (restR (cu1 m c) (cu2 m c))
    (taken (tok1 m c) (clipR (at1 (cu1 m c)))) (taken (tok2 m c) (clipR (at2 (cu1 m c) (cu2 m c)))) := by
  unfold res_out0 res_main_v74 idsR taken clipR at1 at2 perCol colR colW posRow rowW perPos posR perRow everyW restR keepR
  rfl

theorem perCol_at (v : IVec S16x1 32) (j : S16x512.Idx) : perCol v j = v (fun a => match a with | ⟨0, _⟩ => j 0 | ⟨1, _⟩ => (0 : Fin 1)) := by
  refine congrArg v (funext fun a => Fin.ext ?_)
  match a with
  | ⟨0, _⟩ => rfl
  | ⟨1, _⟩ => rfl

theorem colR_at (v : IVec S16 32) (j : S16x512.Idx) : colR v (fun a => match a with | ⟨0, _⟩ => j 0 | ⟨1, _⟩ => (0 : Fin 1)) = v (rowIx j) := by
  refine congrArg v (funext fun a => Fin.ext ?_)
  match a with
  | ⟨0, _⟩ => rfl

theorem idsR_at (t u : IVec S16 32) (g1 g2 : IVec S16x512 32) (j : S16x512.Idx) :
    idsR t u g1 g2 j = idsW (t (rowIx j)) (t (rowIx j) + u (rowIx j) + 2#32) (BitVec.ofNat 32 (j 1).val) (g1 j) (g2 j) := by
  unfold idsW
  rw [← before_last, ← perRow_at t, ← perRow_at u]
  rfl

/-- The identifiers. -/
theorem ids_eq : res_out0 m c = idsOut (tok1 m c) (cu1 m c) (tok2 m c) (cu2 m c) := by
  funext j
  rw [ids_arrays, idsR_at, last_at, keepR_at]
  show idsW _ _ _ (taken _ (fun k => clipW (at1 (cu1 m c) k)) j) (taken _ (fun k => clipW (at2 (cu1 m c) (cu2 m c) k)) j) = _
  rw [taken_clip, taken_clip]
  show idsW _ _ _ (tokAt _ (perRow _ j + posR j - 1#32)) (tokAt _ (perRow _ j + posR j - perRow _ j - 2#32)) = _
  simp only [perRow_at, posR_at, slice_lo, keepR_at]
  rfl

/-- The mask and the types, array by array. -/
def maskR (t u : IVec S16 32) : IVec S16x512 32 :=
  extui 32 (cmpi .sle posR (perCol (addi (addi (colR t) (colR u)) (colW 2#32)))) natLt_1_32
def typeR (t u : IVec S16 32) : IVec S16x512 32 :=
  extui 32 (andi (cmpi .sge posR (perCol (addi (colR t) (colW 2#32))))
    (cmpi .sle posR (perCol (addi (addi (colR t) (colR u)) (colW 2#32))))) natLt_1_32

theorem mask_eq (a b : Bnds.Idx → BitVec 32) : maskR (keepR a b) (restR a b) = maskOut a b := by
  funext j
  unfold maskOut
  rw [← last_at, ← perRow_at (keepR a b), ← perRow_at (restR a b)]
  rfl

theorem type_eq (a b : Bnds.Idx → BitVec 32) : typeR (keepR a b) (restR a b) = typeOut a b := by
  funext j
  unfold typeOut
  rw [← last_at, ← keepR_at, ← perRow_at (keepR a b), ← perRow_at (restR a b)]
  rfl

/-- The reference runs; its arguments end as they were and its results are the packed arrays. -/
theorem run_packed (ρ : Dev nD → PrngReg) :
    θ_run defs (onTc (τ := τ) (main (F := F))) ⟨m, fun _ => 0, ρ⟩ fun r => ∀ c : Dev nD,
      r.2.mem ((c.tc : Thread nD τ).loc main_v74) = idsOut (tok1 m c) (cu1 m c) (tok2 m c) (cu2 m c)
      ∧ r.2.mem ((c.tc : Thread nD τ).loc main_v81) = maskOut (cu1 m c) (cu2 m c)
      ∧ r.2.mem ((c.tc : Thread nD τ).loc main_v94) = typeOut (cu1 m c) (cu2 m c)
      ∧ r.2.mem ((c.tc : Thread nD τ).loc main_arg4) = m ((c.tc : Thread nD τ).loc main_arg4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans (ids_eq m c), (h c).2.1.trans (mask_eq (cu1 m c) (cu2 m c)),
      (h c).2.2.1.trans (type_eq (cu1 m c) (cu2 m c)), (h c).2.2.2⟩) (run m ρ)

end Results

end Cert.ReferenceIdeal.Pack

end
-- ==== Proof.lean ====
/-
  The certificate of the packing kernel. Each tile of the SparseCores copies the two token lists and the two lists of
  boundaries into its own memory, computes one half of one row of the three results and copies it out.
  Proof/Words.lean says in plain terms what a place of each result holds, as words of the arguments. Under
  Proof/KernelIdeal/ (and Proof/Kernel/, the same text for the program over machine floats) Steps.lean is one block of
  sixteen lanes, Tile.lean the whole of a tile's task, Launch.lean the program's run. Proof/ReferenceIdeal/Value.lean
  reads the reference's results as the same words. Here the claims are put together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import Idealize.ShloMosaic.Adequacy
public import Idealize.ShloMosaic.Init
public import proofs.«01_k».proof.Proof.Gen.ReferenceIdeal.Run
public import Idealize.ShloMosaic.Lib.Quiescent
public import proofs.«01_k».proof.Proof.Kernel.Launch
public import proofs.«01_k».proof.Proof.KernelIdeal.Launch
public import proofs.«01_k».proof.Proof.ReferenceIdeal.Value

@[expose] public section

noncomputable section

namespace Cert.Proof

open Idealize.ShloMosaic Idealize.SL.Sem

/-- The kernel runs to its end from any memory, leaves its five arguments as they were and every counter at zero. -/
theorem frame_kernel : Cert.quiescent_Kernel (hKernel := Cert.Kernel.Gen.facts) := fun m g _ =>
  (θ_run Cert.Kernel.defs _ _).mono (fun _ h => ⟨fun c => (h.1 c).1, h.2⟩) (Cert.Kernel.Pack.run_main (F := Bits) m g)

/-- The same of the kernel over the extended reals. -/
theorem frame_ideal : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.Pack.run_main (F := Ideal) m g)

/-- The reference runs to its end and leaves its arguments as they were. It has no semaphore, so none is off zero. -/
theorem frame_reference : Cert.quiescent_ReferenceIdeal (hReferenceIdeal := Cert.ReferenceIdeal.Gen.facts) := fun m g _ =>
  (θ_run Cert.ReferenceIdeal.defs _ _).mono
    (fun r h => ⟨fun c => (h c).2.2.2.2, sem_eq_zero_of_no_sems rfl r.2⟩) (Cert.ReferenceIdeal.Pack.run_packed (F := Ideal) m g)

/-- From equal arguments, kernel and reference end with the same ids, mask and types, and both hand the label on. -/
theorem same_results : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Pack.out0 c m, fun c => Cert.KernelIdeal.Pack.out1 c m,
    fun c => Cert.KernelIdeal.Pack.out2 c m, fun c => m (Cert.KernelIdeal.Pack.lbLoc c), ?_, ?_⟩
  · refine (θ_run Cert.KernelIdeal.defs _ _).mono (fun r h c => ?_) (Cert.KernelIdeal.Pack.run_main (F := Ideal) m g)
    obtain ⟨⟨h0, h1, h2, h3, h4⟩, r0, r1, r2⟩ := h.1 c
    exact ⟨r0, r1, r2, h4, h0, h1, h2, h3, h4⟩
  · refine (θ_run Cert.ReferenceIdeal.defs _ _).mono (fun r h c => ?_) (Cert.ReferenceIdeal.Pack.run_packed (F := Ideal) m' g')
    obtain ⟨r0, r1, r2, r3, rest⟩ := h c
    obtain ⟨a0, a1, a2, a3, a4⟩ := hargs c
    refine ⟨r0.trans ?_, r1.trans ?_, r2.trans ?_, r3.trans a4, rest⟩
    · exact congr (congr (congr (congrArg Cert.Pack.idsOut a0) a1) a2) a3
    · exact congr (congrArg Cert.Pack.maskOut a1) a3
    · exact congr (congrArg Cert.Pack.typeOut a1) a3

/-- All five claims. -/
theorem claim : Cert.Claim :=
  ⟨Cert.Kernel.Gen.facts, Cert.KernelIdeal.Gen.facts, Cert.ReferenceIdeal.Gen.facts,
    frame_kernel, frame_ideal, frame_reference, trivial, same_results⟩

end Cert.Proof

end
